-- ==== Defs.lean ====
def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5))
      ∧ r.2.sem = fun _ => 0)

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v3)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v3) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v3) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)) →
    ∃ (v0 : (c : Dev Cert.UpIdeal.nD) → Buf (Elt Ideal) ((c.tc : Thread Cert.UpIdeal.nD Cert.UpIdeal.τ).loc Cert.UpIdeal.main_v3_0)) (v1 : (c : Dev Cert.UpIdeal.nD) → Buf (Elt Ideal) ((c.tc : Thread Cert.UpIdeal.nD Cert.UpIdeal.τ).loc Cert.UpIdeal.main_v3_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v3_0) = v0 c
          ∧ r.2.mem ((c.tc : Thread Cert.UpIdeal.nD Cert.UpIdeal.τ).loc Cert.UpIdeal.main_v3_1) = v1 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v3_0) = v0 c
          ∧ r.2.mem ((c.tc : Thread Cert.UpRefIdeal.nD Cert.UpRefIdeal.τ).loc Cert.UpRefIdeal.main_v3_1) = v1 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5))

def Claim : Prop :=
  ∃ (hDown : Cert.Down.Facts) (hDownIdeal : Cert.DownIdeal.Facts) (hDownRefIdeal : Cert.DownRefIdeal.Facts) (hUp : Cert.Up.Facts) (hUpIdeal : Cert.UpIdeal.Facts) (hUpRefIdeal : Cert.UpRefIdeal.Facts),
    quiescent_Down (hDown := hDown)
    ∧ quiescent_DownIdeal (hDownIdeal := hDownIdeal)
    ∧ quiescent_DownRefIdeal (hDownRefIdeal := hDownRefIdeal)
    ∧ quiescent_Up (hUp := hUp)
    ∧ quiescent_UpIdeal (hUpIdeal := hUpIdeal)
    ∧ quiescent_UpRefIdeal (hUpRefIdeal := hUpRefIdeal)
    ∧ preserves_Down_DownIdeal
    ∧ algebraic_DownIdeal_DownRefIdeal (hDownIdeal := hDownIdeal) (hDownRefIdeal := hDownRefIdeal)
    ∧ preserves_Up_UpIdeal
    ∧ algebraic_UpIdeal_UpRefIdeal (hUpIdeal := hUpIdeal) (hUpRefIdeal := hUpRefIdeal)
-- ==== Down.lean ====
abbrev S1536x7168 : Shape := ⟨2, ![1536, 7168]⟩
abbrev S1536 : Shape := ⟨1, ![1536]⟩
abbrev S7168x8192 : Shape := ⟨2, ![7168, 8192]⟩
abbrev S8192 : Shape := ⟨1, ![8192]⟩
abbrev S1536x8192 : Shape := ⟨2, ![1536, 8192]⟩
abbrev S1 : Shape := ⟨1, ![1]⟩
abbrev S2x1x768 : Shape := ⟨3, ![2, 1, 768]⟩
abbrev S1x8192 : Shape := ⟨2, ![1, 8192]⟩
abbrev S1x1 : Shape := ⟨2, ![1, 1]⟩
abbrev S768x7168 : Shape := ⟨2, ![768, 7168]⟩
abbrev S1x1x768 : Shape := ⟨3, ![1, 1, 768]⟩
abbrev S7168x512 : Shape := ⟨2, ![7168, 512]⟩
abbrev S1x512 : Shape := ⟨2, ![1, 512]⟩
abbrev S768x512 : Shape := ⟨2, ![768, 512]⟩
abbrev S768x128 : Shape := ⟨2, ![768, 128]⟩
abbrev S1x768 : Shape := ⟨2, ![1, 768]⟩
abbrev S1x128 : Shape := ⟨2, ![1, 128]⟩
abbrev S128x128 : Shape := ⟨2, ![128, 128]⟩
abbrev S7168x256 : Shape := ⟨2, ![7168, 256]⟩
abbrev S768x256 : Shape := ⟨2, ![768, 256]⟩

abbrev nBuf : Space → Nat
  | .hbm => 10
  | .vmem => 14
  | .smem => 0
  | _ => 0

abbrev bufTy : (tb : Table) → Fin (tcTables nBuf tb) → BufTy
  | .hbm, ⟨0, _⟩ => ⟨S1536x7168, .fp8e4m3⟩
  | .hbm, ⟨1, _⟩ => ⟨S1536, .f32⟩
  | .hbm, ⟨2, _⟩ => ⟨S7168x8192, .fp8e4m3⟩
  | .hbm, ⟨3, _⟩ => ⟨S8192, .f32⟩
  | .hbm, ⟨4, _⟩ => ⟨S1536x8192, .f32⟩
  | .hbm, ⟨5, _⟩ => ⟨S1, .f32⟩
  | .hbm, ⟨6, _⟩ => ⟨S2x1x768, .f32⟩
  | .hbm, ⟨7, _⟩ => ⟨S1x8192, .f32⟩
  | .hbm, ⟨8, _⟩ => ⟨S1x1, .f32⟩
  | .hbm, ⟨9, _⟩ => ⟨S1536x8192, .bf16⟩
  | .local _ .vmem, ⟨0, _⟩ => ⟨S768x7168, .fp8e4m3⟩
  | .local _ .vmem, ⟨1, _⟩ => ⟨S768x7168, .fp8e4m3⟩
  | .local _ .vmem, ⟨2, _⟩ => ⟨S1x1x768, .f32⟩
  | .local _ .vmem, ⟨3, _⟩ => ⟨S1x1x768, .f32⟩
  | .local _ .vmem, ⟨4, _⟩ => ⟨S7168x512, .fp8e4m3⟩
  | .local _ .vmem, ⟨5, _⟩ => ⟨S7168x512, .fp8e4m3⟩
  | .local _ .vmem, ⟨6, _⟩ => ⟨S1x512, .f32⟩
  | .local _ .vmem, ⟨7, _⟩ => ⟨S1x512, .f32⟩
  | .local _ .vmem, ⟨8, _⟩ => ⟨S768x512, .f32⟩
  | .local _ .vmem, ⟨9, _⟩ => ⟨S768x512, .f32⟩
  | .local _ .vmem, ⟨10, _⟩ => ⟨S1x1, .f32⟩
  | .local _ .vmem, ⟨11, _⟩ => ⟨S768x512, .bf16⟩
  | .local _ .vmem, ⟨12, _⟩ => ⟨S768x512, .bf16⟩
  | .local _ .vmem, ⟨13, _⟩ => ⟨S768x128, .f32⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S768x7168 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S7168x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S768x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S768x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DownRefIdeal.lean ====
abbrev S1536x7168 : Shape := ⟨2, ![1536, 7168]⟩
abbrev S1536 : Shape := ⟨1, ![1536]⟩
abbrev S7168x8192 : Shape := ⟨2, ![7168, 8192]⟩
abbrev S8192 : Shape := ⟨1, ![8192]⟩
abbrev S1536x8192 : Shape := ⟨2, ![1536, 8192]⟩
abbrev S1 : Shape := ⟨1, ![1]⟩
abbrev S1536x1 : Shape := ⟨2, ![1536, 1]⟩
abbrev S1x8192 : Shape := ⟨2, ![1, 8192]⟩
abbrev S1x1 : Shape := ⟨2, ![1, 1]⟩

abbrev nBuf : Space → Nat
  | .hbm => 10
  | .vmem => 7
  | .smem => 0
  | _ => 0

abbrev bufTy : (tb : Table) → Fin (tcTables nBuf tb) → BufTy
  | .hbm, ⟨0, _⟩ => ⟨S1536x7168, .fp8e4m3⟩
  | .hbm, ⟨1, _⟩ => ⟨S1536, .f32⟩
  | .hbm, ⟨2, _⟩ => ⟨S7168x8192, .fp8e4m3⟩
  | .hbm, ⟨3, _⟩ => ⟨S8192, .f32⟩
  | .hbm, ⟨4, _⟩ => ⟨S1536x8192, .f32⟩
  | .hbm, ⟨5, _⟩ => ⟨S1, .f32⟩
  | .hbm, ⟨6, _⟩ => ⟨S1536x1, .f32⟩
  | .hbm, ⟨7, _⟩ => ⟨S1x8192, .f32⟩
  | .hbm, ⟨8, _⟩ => ⟨S1x1, .f32⟩
  | .hbm, ⟨9, _⟩ => ⟨S1536x8192, .bf16⟩
  | .local _ .vmem, ⟨0, _⟩ => ⟨S1536x7168, .fp8e4m3⟩
  | .local _ .vmem, ⟨1, _⟩ => ⟨S1536x1, .f32⟩
  | .local _ .vmem, ⟨2, _⟩ => ⟨S7168x8192, .fp8e4m3⟩
  | .local _ .vmem, ⟨3, _⟩ => ⟨S1x8192, .f32⟩
  | .local _ .vmem, ⟨4, _⟩ => ⟨S1536x8192, .f32⟩
  | .local _ .vmem, ⟨5, _⟩ => ⟨S1x1, .f32⟩
  | .local _ .vmem, ⟨6, _⟩ => ⟨S1536x8192, .bf16⟩
  | _, _ => ⟨S1536x7168, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S1536x7168 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S7168x8192 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x8192 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Up.lean ====
abbrev S1536x8192 : Shape := ⟨2, ![1536, 8192]⟩
abbrev S1536 : Shape := ⟨1, ![1536]⟩
abbrev S8192x7168 : Shape := ⟨2, ![8192, 7168]⟩
abbrev S7168 : Shape := ⟨1, ![7168]⟩
abbrev S3x1x512 : Shape := ⟨3, ![3, 1, 512]⟩
abbrev S1x7168 : Shape := ⟨2, ![1, 7168]⟩
abbrev S1536x7168 : Shape := ⟨2, ![1536, 7168]⟩
abbrev S512x8192 : Shape := ⟨2, ![512, 8192]⟩
abbrev S1x1x512 : Shape := ⟨3, ![1, 1, 512]⟩
abbrev S8192x512 : Shape := ⟨2, ![8192, 512]⟩
abbrev S1x512 : Shape := ⟨2, ![1, 512]⟩
abbrev S512x7168 : Shape := ⟨2, ![512, 7168]⟩
abbrev S512x128 : Shape := ⟨2, ![512, 128]⟩
abbrev S1x128 : Shape := ⟨2, ![1, 128]⟩
abbrev S128x128 : Shape := ⟨2, ![128, 128]⟩
abbrev S8192x256 : Shape := ⟨2, ![8192, 256]⟩
abbrev S512x256 : Shape := ⟨2, ![512, 256]⟩
abbrev S512 : Shape := ⟨1, ![512]⟩
abbrev S512x1 : Shape := ⟨2, ![512, 1]⟩
abbrev S128 : Shape := ⟨1, ![128]⟩
abbrev S32x128 : Shape := ⟨2, ![32, 128]⟩

abbrev nBuf : Space → Nat
  | .hbm => 11
  | .vmem => 19
  | .smem => 0
  | _ => 0

abbrev bufTy : (tb : Table) → Fin (tcTables nBuf tb) → BufTy
  | .hbm, ⟨0, _⟩ => ⟨S1536x8192, .fp8e4m3⟩
  | .hbm, ⟨1, _⟩ => ⟨S1536, .f32⟩
  | .hbm, ⟨2, _⟩ => ⟨S8192x7168, .fp8e4m3⟩
  | .hbm, ⟨3, _⟩ => ⟨S8192x7168, .fp8e4m3⟩
  | .hbm, ⟨4, _⟩ => ⟨S7168, .f32⟩
  | .hbm, ⟨5, _⟩ => ⟨S7168, .f32⟩
  | .hbm, ⟨6, _⟩ => ⟨S3x1x512, .f32⟩
  | .hbm, ⟨7, _⟩ => ⟨S1x7168, .f32⟩
  | .hbm, ⟨8, _⟩ => ⟨S1x7168, .f32⟩
  | .hbm, ⟨9, _⟩ => ⟨S1536x7168, .fp8e4m3⟩
  | .hbm, ⟨10, _⟩ => ⟨S3x1x512, .f32⟩
  | .local _ .vmem, ⟨0, _⟩ => ⟨S512x8192, .fp8e4m3⟩
  | .local _ .vmem, ⟨1, _⟩ => ⟨S512x8192, .fp8e4m3⟩
  | .local _ .vmem, ⟨2, _⟩ => ⟨S1x1x512, .f32⟩
  | .local _ .vmem, ⟨3, _⟩ => ⟨S1x1x512, .f32⟩
  | .local _ .vmem, ⟨4, _⟩ => ⟨S8192x512, .fp8e4m3⟩
  | .local _ .vmem, ⟨5, _⟩ => ⟨S8192x512, .fp8e4m3⟩
  | .local _ .vmem, ⟨6, _⟩ => ⟨S8192x512, .fp8e4m3⟩
  | .local _ .vmem, ⟨7, _⟩ => ⟨S8192x512, .fp8e4m3⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S512x7168, .fp8e4m3⟩
  | .local _ .vmem, ⟨13, _⟩ => ⟨S512x7168, .fp8e4m3⟩
  | .local _ .vmem, ⟨14, _⟩ => ⟨S1x1x512, .f32⟩
  | .local _ .vmem, ⟨15, _⟩ => ⟨S1x1x512, .f32⟩
  | .local _ .vmem, ⟨16, _⟩ => ⟨S512x7168, .f32⟩
  | .local _ .vmem, ⟨17, _⟩ => ⟨S512x128, .f32⟩
  | .local _ .vmem, ⟨18, _⟩ => ⟨S512x128, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![3, 14], ![false, false]⟩

def k0_mult1 (i : grid0.Coords) : BitVec 32 :=
  let arg1 : BitVec 32 := BitVec.ofNat 32 (i 1).val
  let c512_i32 : BitVec 32 := 512#32
  let v26 : BitVec 32 := Scalar.muli arg1 c512_i32
  let c0_i32_17 : BitVec 32 := 0#32
  let v27 : BitVec 32 := Scalar.addi v26 c0_i32_17
  let c0_i32_18 : BitVec 32 := 0#32
  let v28 : BitVec 32 := Scalar.addi v27 c0_i32_18
  v28
def k0_off1 (i : grid0.Coords) (c0_i32_17 : BitVec 32) (c0_i32_18 : BitVec 32) : Fin 2 → Nat :=
  let c0_19 : Index := 0#32
  let arg1 : BitVec 32 := BitVec.ofNat 32 (i 1).val
  let c512_i32 : BitVec 32 := 512#32
  let v26 : BitVec 32 := Scalar.muli arg1 c512_i32
  let v27 : BitVec 32 := Scalar.addi v26 c0_i32_17
  let v28 : BitVec 32 := Scalar.addi v27 c0_i32_18
  let v29 : BitVec 32 := v28
  let v30 : Index := Scalar.indexCast v29
  ![0, v30.toNat]
def k0_mult2 (i : grid0.Coords) : BitVec 32 :=
  let arg1 : BitVec 32 := BitVec.ofNat 32 (i 1).val
  let c512_i32_31 : BitVec 32 := 512#32
  let v57 : BitVec 32 := Scalar.muli arg1 c512_i32_31
  let c0_i32_32 : BitVec 32 := 0#32
  let v58 : BitVec 32 := Scalar.addi v57 c0_i32_32
  let c128_i32 : BitVec 32 := 128#32
  let v59 : BitVec 32 := Scalar.addi v58 c128_i32
  v59
def k0_mult3 (i : grid0.Coords) : BitVec 32 :=
  let arg1 : BitVec 32 := BitVec.ofNat 32 (i 1).val
  let c512_i32_55 : BitVec 32 := 512#32
  let v94 : BitVec 32 := Scalar.muli arg1 c512_i32_55
  let c256_i32 : BitVec 32 := 256#32
  let v95 : BitVec 32 := Scalar.addi v94 c256_i32
  let c0_i32_56 : BitVec 32 := 0#32
  let v96 : BitVec 32 := Scalar.addi v95 c0_i32_56
  v96
def k0_mult4 (i : grid0.Coords) : BitVec 32 :=
  let arg1 : BitVec 32 := BitVec.ofNat 32 (i 1).val
  let c512_i32_69 : BitVec 32 := 512#32
  let v125 : BitVec 32 := Scalar.muli arg1 c512_i32_69
  let c256_i32_70 : BitVec 32 := 256#32
  let v126 : BitVec 32 := Scalar.addi v125 c256_i32_70
  let c128_i32_71 : BitVec 32 := 128#32
  let v127 : BitVec 32 := Scalar.addi v126 c128_i32_71
  v127
def k0_cond2 (i : grid0.Coords) : BitVec 1 :=
  let arg1 : BitVec 32 := BitVec.ofNat 32 (i 1).val
  let c13_i32 : BitVec 32 := 13#32
  let v139 : BitVec 1 := Scalar.cmpi .eq arg1 c13_i32
  let v140 : BitVec 32 := Scalar.extui v139
  let c0_i32_77 : BitVec 32 := 0#32
  let v141 : BitVec 1 := Scalar.cmpi .ne v140 c0_i32_77
  v141

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x8192 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S8192x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== UpRefIdeal.lean ====
abbrev S1536x8192 : Shape := ⟨2, ![1536, 8192]⟩
abbrev S1536 : Shape := ⟨1, ![1536]⟩
abbrev S8192x7168 : Shape := ⟨2, ![8192, 7168]⟩
abbrev S7168 : Shape := ⟨1, ![7168]⟩
abbrev S1536x1 : Shape := ⟨2, ![1536, 1]⟩
abbrev S1x7168 : Shape := ⟨2, ![1, 7168]⟩
abbrev S1536x7168 : Shape := ⟨2, ![1536, 7168]⟩
abbrev S3x1x512 : Shape := ⟨3, ![3, 1, 512]⟩

abbrev nBuf : Space → Nat
  | .hbm => 11
  | .vmem => 8
  | .smem => 0
  | _ => 0

abbrev bufTy : (tb : Table) → Fin (tcTables nBuf tb) → BufTy
  | .hbm, ⟨0, _⟩ => ⟨S1536x8192, .fp8e4m3⟩
  | .hbm, ⟨1, _⟩ => ⟨S1536, .f32⟩
  | .hbm, ⟨2, _⟩ => ⟨S8192x7168, .fp8e4m3⟩
  | .hbm, ⟨3, _⟩ => ⟨S8192x7168, .fp8e4m3⟩
  | .hbm, ⟨4, _⟩ => ⟨S7168, .f32⟩
  | .hbm, ⟨5, _⟩ => ⟨S7168, .f32⟩
  | .hbm, ⟨6, _⟩ => ⟨S1536x1, .f32⟩
  | .hbm, ⟨7, _⟩ => ⟨S1x7168, .f32⟩
  | .hbm, ⟨8, _⟩ => ⟨S1x7168, .f32⟩
  | .hbm, ⟨9, _⟩ => ⟨S1536x7168, .fp8e4m3⟩
  | .hbm, ⟨10, _⟩ => ⟨S3x1x512, .f32⟩
  | .local _ .vmem, ⟨0, _⟩ => ⟨S1536x8192, .fp8e4m3⟩
  | .local _ .vmem, ⟨1, _⟩ => ⟨S1536x1, .f32⟩
  | .local _ .vmem, ⟨2, _⟩ => ⟨S8192x7168, .fp8e4m3⟩
  | .local _ .vmem, ⟨3, _⟩ => ⟨S8192x7168, .fp8e4m3⟩
  | .local _ .vmem, ⟨4, _⟩ => ⟨S1x7168, .f32⟩
  | .local _ .vmem, ⟨5, _⟩ => ⟨S1x7168, .f32⟩
  | .local _ .vmem, ⟨6, _⟩ => ⟨S1536x7168, .fp8e4m3⟩
  | .local _ .vmem, ⟨7, _⟩ => ⟨S3x1x512, .f32⟩
  | _, _ => ⟨S1536x8192, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1536x8192 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8192x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1536x7168 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.DownSpec.lean ====
module

public import Idealize.ShloMosaic.PureOps
public import Idealize.ShloMosaic.Lib.Pointwise

@[expose] public section

noncomputable section

open Idealize.ShloMosaic

namespace Cert.DownSpec

/-- The down projection at row `r`, column `q`, over the extended reals: the residual plus the gate's `tanh` times the
    product of the codes, rescaled by the row's scale and the column's scale. -/
def out (X : FVec Ideal ⟨2, ![1536, 7168]⟩ .fp8e4m3) (S : FVec Ideal ⟨1, ![1536]⟩ .f32) (W : FVec Ideal ⟨2, ![7168, 8192]⟩ .fp8e4m3)
    (SW : FVec Ideal ⟨1, ![8192]⟩ .f32) (H : FVec Ideal ⟨2, ![1536, 8192]⟩ .f32) (G : FVec Ideal ⟨1, ![1]⟩ .f32) :
    FVec Ideal ⟨2, ![1536, 8192]⟩ .bf16 := fun i =>
  (H (ix2 (i 0) (i 1)) : EReal) + (Ideal.tanh (G (ix1 0)) : EReal) *
    ((∑ k : Fin 7168, (X (ix2 (i 0) k) : EReal) * (W (ix2 k (i 1)) : EReal)) * (S (ix1 (i 0)) : EReal) * (SW (ix1 (i 1)) : EReal))

end Cert.DownSpec
end
-- ==== Proof.DownVal.lean ====
module

public import proofs.«01_k».proof.Proof.Gen.DownIdeal.Frame
public import proofs.«01_k».proof.Proof.DownSpec
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.DownIdeal.Val

open Cert.DownIdeal Cert.DownIdeal.Gen Idealize.ShloMosaic Idealize.ShloMosaic.TcCoe Idealize.SL.Sem
open Idealize.ShloMosaic.Pipeline (Dat)

variable (m : (ℓ : Loc nD τ sig) → Buf (Elt Ideal) ℓ)

/-- The windows' blocks at each grid point. -/
theorem idx_val : ∀ t : Fin cfg0.N, win0_0.index t = ![t.val / 16, 0] ∧ win0_1.index t = ![t.val / 16, 0, 0]
    ∧ win0_2.index t = ![0, t.val % 16] ∧ win0_3.index t = ![0, t.val % 16] ∧ win0_4.index t = ![t.val / 16, t.val % 16]
    ∧ win0_5.index t = ![0, 0] ∧ win0_6.index t = ![t.val / 16, t.val % 16] ∧ t.val / 16 < 2 :=
  (by decide +kernel : ∀ t : Fin grid0.N, _)

/-- The row of scales, laid out as a column in every lane. -/
theorem pay5_at (x : Vec Ideal S1x1x768 .f32) (r : Fin 768) (l : Fin 128) : k0_pay5 (F := Ideal) x (ix2 r l) = x (ix3 0 0 r) := by
  pointwise [k0_pay5]
  blk_point []

/-- A point that fills the scratch leaves its rows' scales there. -/
theorem scrA (c : Dev nD) (t : Fin cfg0.N) (r : Fin 768) (l : Fin 128) (q : Fin 1536) (hq : q.val = t.val / 16 * 768 + r.val) :
    k0_pay5 (F := Ideal) (iblk m c 1 t) (ix2 r l) = (m ((c : Thread nD τ).loc main_arg1) : Vec Ideal S1536 .f32) (ix1 q) := by
  rw [pay5_at]
  blk_point [iblk, V, idx_val t]

/-- What the carried scratch holds after point `t`: the scales of the point's rows. -/
theorem scr (c : Dev nD) : ∀ (n : ℕ) (hn : n < cfg0.N) (r : Fin 768) (l : Fin 128) (q : Fin 1536) (_ : q.val = n / 16 * 768 + r.val),
    (outsAt0 m c n hn).2 (ix2 r l) = (m ((c : Thread nD τ).loc main_arg1) : Vec Ideal S1536 .f32) (ix1 q)
  | n, hn, r, l, q, hq => by
    by_cases h : n % 16 = 0
    · rw [outsAt0_A m c ⟨n, hn⟩ h]
      frame_out
      exact scrA m c ⟨n, hn⟩ r l q hq
    · cases n with
      | zero => exact absurd rfl h
      | succ n =>
        rw [outsAt0_B m c ⟨n + 1, hn⟩ h]
        exact scr c n (by omega) r l q (by omega)

/-- The array after the run is the plain formula of the arguments. -/
theorem final (c : Dev nD) : (dats m 0 c).arrAt 6 (cfgs 0).N
    = DownSpec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  have hN : t.val / 16 < 2 := (idx_val t).2.2.2.2.2.2.2
  by_cases h : t.val % 16 = 0
  · rw [outsAt0_A m c t h]
    frame_out
    have hs := scrA m c t
    generalize k0_pay5 (F := Ideal) (iblk m c 1 t) = s at hs ⊢
    canon_tiles x h
    all_goals
      idx_vars x
      pointwise [k0_pay1, k0_pay2, k0_pay3, k0_pay4, k0_pay6, k0_pay7, k0_pay8, k0_pay9, DownSpec.out]
      rw [hs _ _ ⟨t.val / 16 * 768 + x0.val, by omega⟩ rfl]
      blk_point [iblk, V, idx_val t]
  · rw [outsAt0_B m c t h]
    frame_out
    have hs : ∀ (r : Fin 768) (l : Fin 128) (q : Fin 1536), q.val = t.val / 16 * 768 + r.val →
        (outsAt0 m c (t.val - 1) (Nat.lt_of_le_of_lt (Nat.sub_le _ _) t.isLt)).2 (ix2 r l) = _ :=
      fun r l q hq => scr m c (t.val - 1) (Nat.lt_of_le_of_lt (Nat.sub_le _ _) t.isLt) r l q (by omega)
    simp only [read_unread_whole]
    generalize (outsAt0 m c (t.val - 1) _).2 = s at hs ⊢
    canon_tiles x h
    all_goals
      idx_vars x
      pointwise [k0_pay1, k0_pay2, k0_pay3, k0_pay4, k0_pay6, k0_pay7, k0_pay8, k0_pay9, DownSpec.out]
      rw [hs _ _ ⟨t.val / 16 * 768 + x0.val, by omega⟩ rfl]
      blk_point [iblk, V, idx_val t]

end Cert.DownIdeal.Val
end
-- ==== Proof.DownRefVal.lean ====
module

public import proofs.«01_k».proof.Proof.Gen.DownRefIdeal.Frame
public import proofs.«01_k».proof.Proof.DownSpec
public import Idealize.ShloMosaic.Lib.Pipeline.ValueKit
public import Idealize.ShloMosaic.Lib.Pointwise
public import Idealize.ShloMosaic.Lib.Claim

@[expose] public section

set_option maxRecDepth 16384

noncomputable section

namespace Cert.DownRefIdeal.Val

open Cert.DownRefIdeal Cert.DownRefIdeal.Gen Idealize.ShloMosaic Idealize.ShloMosaic.TcCoe Idealize.SL.Sem
open Idealize.ShloMosaic.Pipeline (Dat)

variable (m : (ℓ : Loc nD τ sig) → Buf (Elt Ideal) ℓ)

/-- Every window's one block is at the origin. -/
theorem idx : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0] := by decide +kernel

/-- The reference's result array is the plain formula of its arguments. -/
theorem final (c : Dev nD) : (dats m 0 c).arrAt 6 (cfgs 0).N
    = DownSpec.out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]
  frame_out
  idx_vars j
  pointwise [k0_pay1, DownSpec.out]
  blk_point [iblk, V, idx]

end Cert.DownRefIdeal.Val
end
-- ==== Proof.UpBody.lean ====
/-
  The body of the fused gate and up projection, cut in two.
-/
module

public import proofs.«01_k».proof.Proof.Gen.Up.Frame
public import proofs.«01_k».proof.Proof.Gen.Up.Skeleton
public import proofs.«01_k».proof.Proof.Gen.Up.Points
public import Idealize.ShloMosaic.Lib.Ring
public import Idealize.ShloMosaic.Lib.Tactic
public import Idealize.ShloMosaic.Lib.WordCmp

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first part of the body: the fill of the two small scratch arrays on a row block's first step, the products, and the
    step's four pieces of hidden values; then the program `k`. -/
def products (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (k : BitVec 32 → BitVec 32 → Prog (TpuEff nD τ sig (Elt F) Λ₀ .tc) PUnit) : Prog (TpuEff nD τ sig (Elt F) Λ₀ .tc) PUnit := do
  let ⟨arg1, v5, v8, v25⟩ : Σ' (arg1 : BitVec 32) (v5 : FVec F S512x256 .f32) (v8 : FVec F S512x256 .f32), FVec F S512x128 .f32 ← k0_part275 i arg2 harg2 arg3 harg3 arg4 harg4 arg5 harg5 arg6 harg6 arg7 harg7 arg8 harg8 arg9 harg9 arg10 harg10 arg11 harg11 arg12 harg12
  let v67 : FVec F S512x128 .f32 ← k0_part276 i arg2 harg2 arg3 harg3 arg4 harg4 arg5 harg5 arg6 harg6 arg7 harg7 arg8 harg8 arg9 harg9 arg10 harg10 arg11 harg11 arg12 harg12 arg1 v5 v8 v25
  let ⟨v73, v76, v102, v103⟩ : Σ' (v73 : FVec F S512x256 .f32) (v76 : FVec F S512x256 .f32) (v102 : Vec F S512x128 .f32), FVec F S512x128 .f32 ← k0_part277 i arg2 harg2 arg3 harg3 arg4 harg4 arg5 harg5 arg6 harg6 arg7 harg7 arg8 harg8 arg9 harg9 arg10 harg10 arg11 harg11 arg12 harg12 arg1 v67
  let ⟨v140, c0_i32_77⟩ : Σ' (v140 : BitVec 32), BitVec 32 ← k0_part278 i arg2 harg2 arg3 harg3 arg4 harg4 arg5 harg5 arg6 harg6 arg7 harg7 arg8 harg8 arg9 harg9 arg10 harg10 arg11 harg11 arg12 harg12 arg1 v73 v76 v102 v103
  k v140 c0_i32_77

/-- The second part of the body: on a row block's last step, the scales and the codes. -/
def encodeStep (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) : Prog (TpuEff nD τ sig (Elt F) Λ₀ .tc) PUnit := do
  if k0_h2 : k0_cond2 i = 1#1 then do
    let v1951 : Vec F S32x128 .f32 ← k0_part270 i arg2 harg2 arg3 harg3 arg4 harg4 arg5 harg5 arg6 harg6 arg7 harg7 arg8 harg8 arg9 harg9 arg10 harg10 arg11 harg11 arg12 harg12
    let v3751 : Vec F S32x128 .f32 ← k0_part271 i arg2 harg2 arg3 harg3 arg4 harg4 arg5 harg5 arg6 harg6 arg7 harg7 arg8 harg8 arg9 harg9 arg10 harg10 arg11 harg11 arg12 harg12 v1951
    let v5551 : Vec F S32x128 .f32 ← k0_part272 i arg2 harg2 arg3 harg3 arg4 harg4 arg5 harg5 arg6 harg6 arg7 harg7 arg8 harg8 arg9 harg9 arg10 harg10 arg11 harg11 arg12 harg12 v3751
    let v7351 : Vec F S32x128 .f32 ← k0_part273 i arg2 harg2 arg3 harg3 arg4 harg4 arg5 harg5 arg6 harg6 arg7 harg7 arg8 harg8 arg9 harg9 arg10 harg10 arg11 harg11 arg12 harg12 v5551
    let ⟨cst_7192, v8237⟩ : Σ' (cst_7192 : F .f32), FVec F S32x128 .f32 ← k0_part274 i arg2 harg2 arg3 harg3 arg4 harg4 arg5 harg5 arg6 harg6 arg7 harg7 arg8 harg8 arg9 harg9 arg10 harg10 arg11 harg11 arg12 harg12 v7351
    let v8241 : Vec F S32x128 .fp8e4m3 ← Prog.lift (.load arg8 (Rect.unit (s := S512x7168) ![480, 6912] S32x128.size inb_S512x7168_S32x128_480_6912).toLoadRect (View.loadsAt_vmem h_S32x128))
    Prog.lift (.store arg8 (Rect.unit (s := S512x7168) ![480, 6912] S32x128.size inb_S512x7168_S32x128_480_6912) (k0_pay1 cst_7192 v8237) Finset.univ (View.stores_vmem h_S32x128 (harg8.storeExact_slice rfl _ packedfp8e4m3_S512x7168_S32x128_480_6912) (fun _ => rfl)) (.inl rfl))
    let v8242 : Vec F S32x128 .f32 ← Prog.lift (.load arg10 (Rect.unit (s := S512x7168) ![480, 7040] S32x128.size inb_S512x7168_S32x128_480_7040).toLoadRect (View.loadsAt_vmem h_S32x128))
    let v8243 : Vec F S32x128 .f32 ← Prog.lift (.load arg11 (Rect.unit (s := S512x128) ![480, 0] S32x128.size inb_S512x128_S32x128_480_0).toLoadRect (View.loadsAt_vmem h_S32x128))
    let v8250 : Vec F S32x128 .fp8e4m3 ← Prog.lift (.load arg8 (Rect.unit (s := S512x7168) ![480, 7040] S32x128.size inb_S512x7168_S32x128_480_7040).toLoadRect (View.loadsAt_vmem h_S32x128))
    Prog.lift (.store arg8 (Rect.unit (s := S512x7168) ![480, 7040] S32x128.size inb_S512x7168_S32x128_480_7040) (k0_pay2 v8242 v8243) Finset.univ (View.stores_vmem h_S32x128 (harg8.storeExact_slice rfl _ packedfp8e4m3_S512x7168_S32x128_480_7040) (fun _ => rfl)) (.inl rfl))
    pure ⟨⟩
  else do
    pure ⟨⟩
  pure ⟨⟩

set_option maxRecDepth 65536 in
/-- The body is its two parts one after the other. -/
theorem body_eq (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) :
    cc0_gate_up (F := F) i arg2 harg2 arg3 harg3 arg4 harg4 arg5 harg5 arg6 harg6 arg7 harg7 arg8 harg8 arg9 harg9 arg10 harg10 arg11 harg11 arg12 harg12 = products i arg2 harg2 arg3 harg3 arg4 harg4 arg5 harg5 arg6 harg6 arg7 harg7 arg8 harg8 arg9 harg9 arg10 harg10 arg11 harg11 arg12 harg12 fun _ _ => encodeStep i arg2 harg2 arg3 harg3 arg4 harg4 arg5 harg5 arg6 harg6 arg7 harg7 arg8 harg8 arg9 harg9 arg10 harg10 arg11 harg11 arg12 harg12 := by
  rw [cc0_gate_up_eq_skeleton]; rfl

end Cert.Up.Hand

end
-- ==== Proof.UpProd.lean ====
/-
  The run of the first part: the products and the hidden values.
-/
module

public import proofs.«01_k».proof.Proof.UpBody
public import proofs.«01_k».proof.Proof.Gen.Up.Skeleton
public import proofs.«01_k».proof.Proof.Gen.Up.Points
public import Idealize.ShloMosaic.Lib.Ring
public import Idealize.ShloMosaic.Lib.Tactic
public import Idealize.ShloMosaic.Lib.WordCmp

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first part at a row block's first step: what it leaves in the hidden values' array, from its contents
    `x10` before, and what it stores in the row maxima and the row scales. -/
def productsFirst (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ((Scalar.cmpi .ne (Scalar.extui (Scalar.cmpi .eq (BitVec.ofNat 32 (i 1).val) 0#32)) 0#32) = 1#1)) (x2 : Vec F S512x8192 .fp8e4m3) (x3 : Vec F S1x1x512 .f32) (x4 : Vec F S8192x512 .fp8e4m3) (x5 : Vec F S8192x512 .fp8e4m3) (x6 : Vec F S1x512 .f32) (x7 : Vec F S1x512 .f32) (x10 : Vec F S512x7168 .f32) :
    Σ' (W10 : BufTy.Contents (Elt F) arg10.view.ty) (L11 : List (View.Piece (Elt F) S512x128 .f32)), { L12 : List (View.Piece (Elt F) S512x128 .f32) //
      ∀ (E : Set ℕ) (k : BitVec 32 → BitVec 32 → Prog (TpuEff nD τ sig (Elt F) Λ₀ .tc) PUnit) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ (∃ d, owns (c : Thread nD τ) arg11 fullShare d) ∗ (∃ d, owns (c : Thread nD τ) arg12 fullShare d)
            ∗ (∀ a b, iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg10.view.loc (c : Thread nD τ) ↦[arg10.view.set]{fullShare} W10) ∗ (∃ f, (arg11.view.loc (c : Thread nD τ) ↦[arg11.view.set]{fullShare} arg11.view.writes (Elt F) (f) L11)) ∗ (∃ f, (arg12.view.loc (c : Thread nD τ) ↦[arg12.view.set]{fullShare} arg12.view.writes (Elt F) (f) L12)))
              -∗ wp frame (wpE (defs₀ (F := F)) Variants.none c none) E (k a b) K))
          ⊢ wp frame (wpE (defs₀ (F := F)) Variants.none c none) E (products i arg2 harg2 arg3 harg3 arg4 harg4 arg5 harg5 arg6 harg6 arg7 harg7 arg8 harg8 arg9 harg9 arg10 harg10 arg11 harg11 arg12 harg12 k) K } := by
  refine ⟨?_, ?_, ?_, fun E k K => ?run⟩
  case run =>
    unfold products
    simp only [k0_part275_eq_skeleton, k0_part276_eq_skeleton, k0_part277_eq_skeleton, k0_part278_eq_skeleton]
    unfold k0_part275_skel k0_part276_skel k0_part277_skel k0_part278_skel owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
    sl_exec (disch := sl_exact hc0)
    dsimp only
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]; · iexact H10
    isplitl [H11]; · iexists _; iexact H11
    iexists _; iexact H12

set_option maxHeartbeats 4000000 in
/-- The first part at a later step: what it leaves in the hidden values' array, from its contents
    `x10` before, and what it stores in the row maxima, from theirs. -/
def productsLater (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ¬ ((Scalar.cmpi .ne (Scalar.extui (Scalar.cmpi .eq (BitVec.ofNat 32 (i 1).val) 0#32)) 0#32) = 1#1)) (x2 : Vec F S512x8192 .fp8e4m3) (x3 : Vec F S1x1x512 .f32) (x4 : Vec F S8192x512 .fp8e4m3) (x5 : Vec F S8192x512 .fp8e4m3) (x6 : Vec F S1x512 .f32) (x7 : Vec F S1x512 .f32) (x10 : Vec F S512x7168 .f32) (x11 : Vec F S512x128 .f32) (x12 : Vec F S512x128 .f32) :
    Σ' (W10 : BufTy.Contents (Elt F) arg10.view.ty), { L11 : List (View.Piece (Elt F) S512x128 .f32) //
      ∀ (E : Set ℕ) (k : BitVec 32 → BitVec 32 → Prog (TpuEff nD τ sig (Elt F) Λ₀ .tc) PUnit) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12
            ∗ (∀ a b, iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg10.view.loc (c : Thread nD τ) ↦[arg10.view.set]{fullShare} W10) ∗ (arg11.view.loc (c : Thread nD τ) ↦[arg11.view.set]{fullShare} arg11.view.writes (Elt F) (harg11.unread x11) L11) ∗ owns (c : Thread nD τ) arg12 fullShare x12)
              -∗ wp frame (wpE (defs₀ (F := F)) Variants.none c none) E (k a b) K))
          ⊢ wp frame (wpE (defs₀ (F := F)) Variants.none c none) E (products i arg2 harg2 arg3 harg3 arg4 harg4 arg5 harg5 arg6 harg6 arg7 harg7 arg8 harg8 arg9 harg9 arg10 harg10 arg11 harg11 arg12 harg12 k) K } := by
  refine ⟨?_, ?_, fun E k K => ?run⟩
  case run =>
    unfold products
    simp only [k0_part275_eq_skeleton, k0_part276_eq_skeleton, k0_part277_eq_skeleton, k0_part278_eq_skeleton]
    unfold k0_part275_skel k0_part276_skel k0_part277_skel k0_part278_skel owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12
    sl_exec (disch := sl_exact hc0)
    dsimp only
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]; · iexact H10
    isplitl [H11]; · iexact H11
    iexists _; isplitr; · ipureintro; exact harg12.read_unread _
    iexact H12

end Cert.Up.Hand

end
-- ==== Proof.UpEnc.lean ====
/-
  The run of the second part: the scales and the codes.
-/
module

public import proofs.«01_k».proof.Proof.UpBody
public import proofs.«01_k».proof.Proof.Gen.Up.Skeleton
public import proofs.«01_k».proof.Proof.Gen.Up.Points
public import Idealize.ShloMosaic.Lib.Ring
public import Idealize.ShloMosaic.Lib.Tactic
public import Idealize.ShloMosaic.Lib.WordCmp

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second part on a row block's last step: from the hidden values `x10` and the row maxima `x11`, what it leaves in the
    codes and in the scales, as the list of what it stores (last first). -/
def encodeRun (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc1 : k0_cond2 i = 1#1) (x10 : Vec F S512x7168 .f32) (x11 : Vec F S512x128 .f32) :
    Σ' (L8 : List (View.Piece (Elt F) S512x7168 .fp8e4m3)), { L9 : List (View.Piece (Elt F) S1x1x512 .f32) //
      ∀ (E : Set ℕ) (K : PUnit → sProp 𝕄),
        iprop((∃ d, owns (c : Thread nD τ) arg8 fullShare d) ∗ (∃ d, owns (c : Thread nD τ) arg9 fullShare d) ∗ owns (c : Thread nD τ) arg10 fullShare x10 ∗ owns (c : Thread nD τ) arg11 fullShare x11
            ∗ (iprop((∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ owns (c : Thread nD τ) arg10 fullShare x10 ∗ (∃ d, owns (c : Thread nD τ) arg11 fullShare d)) -∗ K ⟨⟩))
          ⊢ wp frame (wpE (defs₀ (F := F)) Variants.none c none) E (encodeStep i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    unfold encodeStep owns
    iintro ⟨⟨%d8, %f8, -, H8⟩, ⟨%d9, %f9, -, H9⟩, ⟨%f10, %hf10, H10⟩, ⟨%f11, %hf11, H11⟩, Hk⟩
    obtain rfl := harg10.eq_unread hf10; obtain rfl := harg11.eq_unread hf11
    sl_exec_parts (disch := sl_exact hc1)
    sl_step
    iapply Hk
    isplitl [H8]; · iexists _; iexact H8
    isplitl [H9]; · iexists _; iexact H9
    isplitl [H10]
    · iexists _; isplitr; · ipureintro; exact harg10.read_unread _
      iexact H10
    iexists _, _; isplitr; swap; · iexact H11
    ipureintro; rfl

end Cert.Up.Hand

end
-- ==== Proof.UpKit.lean ====
/-
  What the runs share: the conditions, the buffers at a point, and the second part where it is skipped.
-/
module

public import proofs.«01_k».proof.Proof.UpProd
public import proofs.«01_k».proof.Proof.UpEnc

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 42 := Nat.lt_of_lt_of_eq t.isLt N_0
    have e0 : (grid0.coords t 0).val = t.val / 14 % 3 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates. -/
abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 42 := Nat.lt_of_lt_of_eq t.isLt N_0
    have e0 : (grid0.coords t 0).val = t.val / 14 % 3 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x7168 .f32 := Memref.whole cc0_scratch0
abbrev scM0_1 : Memref sig .tc .vmem S512x128 .f32 := Memref.whole cc0_scratch1
abbrev scM0_2 : Memref sig .tc .vmem S512x128 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Where the condition fails, the second part does nothing. -/
theorem encode_skip (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) (hc1 : ¬ k0_cond2 i = 1#1) (E : Set ℕ) (K : PUnit → sProp 𝕄) :
    K ⟨⟩ ⊢ wp frame (wpE (defs₀ (F := F)) Variants.none c none) E (encodeStep (F := F) i arg2 harg2 arg3 harg3 arg4 harg4 arg5 harg5 arg6 harg6 arg7 harg7 arg8 harg8 arg9 harg9 arg10 harg10 arg11 harg11 arg12 harg12) K := by
  iintro Hk
  unfold encodeStep
  sl_exec (disch := sl_exact hc1)
  sl_step
  iexact Hk

end Cert.Up.Hand

end
-- ==== Proof.UpRun.lean ====
/-
  The frame of the call that makes the hidden codes: every run ends, with its arguments unchanged.
-/
module

public import proofs.«01_k».proof.Proof.UpKit
public import proofs.«01_k».proof.Proof.Gen.Up.Frame
public import Idealize.ShloMosaic.Lib.Claim

@[expose] public section

set_option maxRecDepth 16384

noncomputable section

namespace Cert.Up.Hand

open Cert.Up Cert.Up.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The frame from a frame run with outputs forgotten: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Up`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(Pipeline.RDat.FramePost.arr_in h c 0 rfl).trans ((hA c 0).trans (V_main_arg0 m c)),
      ((h c).2 main_arg1 (Pipeline.mem_restRefs_of main_arg1 (by decide) (by decide))).trans (V_main_arg1 m c),
      (Pipeline.RDat.FramePost.arr_in h c 2 rfl).trans ((hA c 2).trans (V_main_arg2 m c)),
      (Pipeline.RDat.FramePost.arr_in h c 3 rfl).trans ((hA c 3).trans (V_main_arg3 m c)),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) h

/-! ## The pipeline's proof data -/

/-- The two output windows, of which nothing is named. -/
def forgets0 : Fin 8 → Bool := fun w => w.val == 6 || w.val == 7

/-- The proof data: the arrays as the region finds them; after each point every input's buffer at its block, the outputs
    at anything; between points the scratch at anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare d)
    ∗ (∃ d, owns (c : Thread nD τ) (ms0_7 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (∃ d, owns (c : Thread nD τ) (ms0_6 t) fullShare d)
    ∗ (∃ d, owns (c : Thread nD τ) (ms0_7 t) fullShare d))

set_option maxHeartbeats 9600000 in
/-- The body at any point, case by case: a row block's first step, a middle one, its last. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = Pipeline.ΦA spec0 c from rfl, show (dats m 0 c).Φ t.castSucc = Pipeline.ΦA spec0 c from rfl, PhiA0_eq]
  rw [body_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 14 = 0
  · have h1 : ¬ t.val % 14 = 13 := by omega
    iintro ⟨⟨⟨⟨%x10, HS0⟩, ⟨%x11, HS1⟩, ⟨%x12, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((productsFirst c (grid0.coords t) _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) x10).2.2.2 Set.univ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexists _; iexact HS1
    isplitl [HS2]; · iexists _; iexact HS2
    iintro %a %b ⟨H0, H1, H2, H3, H4, H5, HS0, ⟨%f1, HS1⟩, ⟨%f2, HS2⟩⟩
    iapply (encode_skip c (grid0.coords t) _ _ _ _ _ _ _ _ _ _ _ _ _ _ _ _ _ _ _ _ _ _ (fun h => h1 ((hcond0_1 t).mp h)) Set.univ _)
    isplitl [HS0 HS1 HS2 Hg]
    · isplitl [HS0 HS1 HS2]
      · isplitl [HS0]
        · unfold owns; iexists _; iexists _; isplitr
          swap; · iexact HS0
          ipureintro; rfl
        isplitl [HS1]
        · unfold owns; iexists _; iexists _; isplitr
          swap; · iexact HS1
          ipureintro; rfl
        unfold owns; iexists _; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7
  by_cases h1 : t.val % 14 = 13
  · skip
    iintro ⟨⟨⟨⟨%x10, HS0⟩, ⟨%x11, HS1⟩, ⟨%x12, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((productsLater c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) x10 x11 x12).2.2 Set.univ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro %a %b ⟨H0, H1, H2, H3, H4, H5, HS0, HS1, HS2⟩
    iapply ((encodeRun c (grid0.coords t) _ _ _ _ _ _ _ _ _ _ _ _ _ _ _ _ _ _ _ _ _ _ ((hcond0_1 t).mpr h1) _ _).2.2 Set.univ _)
    isplitl [H6]; · iexists _; iexact H6
    isplitl [H7]; · iexists _; iexact H7
    isplitl [HS0]
    · unfold owns; iexists _; isplitr
      swap; · iexact HS0
      ipureintro; rfl
    isplitl [HS1]
    · unfold owns; iexists _; isplitr
      swap; · iexact HS1
      ipureintro; rfl
    iintro ⟨⟨%f6, H6⟩, ⟨%f7, H7⟩, HS0, HS1⟩
    isplitl [HS0 HS1 HS2 Hg]
    · isplitl [HS0 HS1 HS2]
      · isplitl [HS0]
        · iexists _; iexact HS0
        isplitl [HS1]
        · iexact HS1
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · unfold owns; iexists _; iexists _; isplitr; swap; (iexact H6); (ipureintro; rfl)
    unfold owns; iexists _; iexists _; isplitr; swap; (iexact H7); (ipureintro; rfl)
  · skip
    iintro ⟨⟨⟨⟨%x10, HS0⟩, ⟨%x11, HS1⟩, ⟨%x12, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((productsLater c (grid0.coords t) _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) x10 x11 x12).2.2 Set.univ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro %a %b ⟨H0, H1, H2, H3, H4, H5, HS0, HS1, HS2⟩
    iapply (encode_skip c (grid0.coords t) _ _ _ _ _ _ _ _ _ _ _ _ _ _ _ _ _ _ _ _ _ _ (fun h => h1 ((hcond0_1 t).mp h)) Set.univ _)
    isplitl [HS0 HS1 HS2 Hg]
    · isplitl [HS0 HS1 HS2]
      · isplitl [HS0]
        · unfold owns; iexists _; iexists _; isplitr
          swap; · iexact HS0
          ipureintro; rfl
        isplitl [HS1]
        · unfold owns; iexists _; iexists _; isplitr
          swap; · iexact HS1
          ipureintro; rfl
        iexists _; iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    iexists _; iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := Idealize.SL.BI.Entails.refl _

/-! ## The run and the frame -/

-- `θ_run_frame_track_forget`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 6, 7) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of_forget m ρ (fun c => (dats m 0 c).toRForget forgets0) (A_eq m) (run_main m ρ)

/-- The frame: every run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Up.Hand

end
-- ==== Proof.UpIdealBody.lean ====
/-
  The body of the fused gate and up projection, cut in two.
-/
module

public import proofs.«01_k».proof.Proof.Gen.UpIdeal.Frame
public import proofs.«01_k».proof.Proof.Gen.UpIdeal.Skeleton
public import proofs.«01_k».proof.Proof.Gen.UpIdeal.Points
public import Idealize.ShloMosaic.Lib.Ring
public import Idealize.ShloMosaic.Lib.Tactic
public import Idealize.ShloMosaic.Lib.WordCmp

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first part of the body: the fill of the two small scratch arrays on a row block's first step, the products, and the
    step's four pieces of hidden values; then the program `k`. -/
def products (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (k : BitVec 32 → BitVec 32 → Prog (TpuEff nD τ sig (Elt F) Λ₀ .tc) PUnit) : Prog (TpuEff nD τ sig (Elt F) Λ₀ .tc) PUnit := do
  let ⟨arg1, v5, v8, v25⟩ : Σ' (arg1 : BitVec 32) (v5 : FVec F S512x256 .f32) (v8 : FVec F S512x256 .f32), FVec F S512x128 .f32 ← k0_part275 i arg2 harg2 arg3 harg3 arg4 harg4 arg5 harg5 arg6 harg6 arg7 harg7 arg8 harg8 arg9 harg9 arg10 harg10 arg11 harg11 arg12 harg12
  let v67 : FVec F S512x128 .f32 ← k0_part276 i arg2 harg2 arg3 harg3 arg4 harg4 arg5 harg5 arg6 harg6 arg7 harg7 arg8 harg8 arg9 harg9 arg10 harg10 arg11 harg11 arg12 harg12 arg1 v5 v8 v25
  let ⟨v73, v76, v102, v103⟩ : Σ' (v73 : FVec F S512x256 .f32) (v76 : FVec F S512x256 .f32) (v102 : Vec F S512x128 .f32), FVec F S512x128 .f32 ← k0_part277 i arg2 harg2 arg3 harg3 arg4 harg4 arg5 harg5 arg6 harg6 arg7 harg7 arg8 harg8 arg9 harg9 arg10 harg10 arg11 harg11 arg12 harg12 arg1 v67
  let ⟨v140, c0_i32_77⟩ : Σ' (v140 : BitVec 32), BitVec 32 ← k0_part278 i arg2 harg2 arg3 harg3 arg4 harg4 arg5 harg5 arg6 harg6 arg7 harg7 arg8 harg8 arg9 harg9 arg10 harg10 arg11 harg11 arg12 harg12 arg1 v73 v76 v102 v103
  k v140 c0_i32_77

/-- The second part of the body: on a row block's last step, the scales and the codes. -/
def encodeStep (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) : Prog (TpuEff nD τ sig (Elt F) Λ₀ .tc) PUnit := do
  if k0_h2 : k0_cond2 i = 1#1 then do
    let v1951 : Vec F S32x128 .f32 ← k0_part270 i arg2 harg2 arg3 harg3 arg4 harg4 arg5 harg5 arg6 harg6 arg7 harg7 arg8 harg8 arg9 harg9 arg10 harg10 arg11 harg11 arg12 harg12
    let v3751 : Vec F S32x128 .f32 ← k0_part271 i arg2 harg2 arg3 harg3 arg4 harg4 arg5 harg5 arg6 harg6 arg7 harg7 arg8 harg8 arg9 harg9 arg10 harg10 arg11 harg11 arg12 harg12 v1951
    let v5551 : Vec F S32x128 .f32 ← k0_part272 i arg2 harg2 arg3 harg3 arg4 harg4 arg5 harg5 arg6 harg6 arg7 harg7 arg8 harg8 arg9 harg9 arg10 harg10 arg11 harg11 arg12 harg12 v3751
    let v7351 : Vec F S32x128 .f32 ← k0_part273 i arg2 harg2 arg3 harg3 arg4 harg4 arg5 harg5 arg6 harg6 arg7 harg7 arg8 harg8 arg9 harg9 arg10 harg10 arg11 harg11 arg12 harg12 v5551
    let ⟨cst_7192, v8237⟩ : Σ' (cst_7192 : F .f32), FVec F S32x128 .f32 ← k0_part274 i arg2 harg2 arg3 harg3 arg4 harg4 arg5 harg5 arg6 harg6 arg7 harg7 arg8 harg8 arg9 harg9 arg10 harg10 arg11 harg11 arg12 harg12 v7351
    let v8241 : Vec F S32x128 .fp8e4m3 ← Prog.lift (.load arg8 (Rect.unit (s := S512x7168) ![480, 6912] S32x128.size inb_S512x7168_S32x128_480_6912).toLoadRect (View.loadsAt_vmem h_S32x128))
    Prog.lift (.store arg8 (Rect.unit (s := S512x7168) ![480, 6912] S32x128.size inb_S512x7168_S32x128_480_6912) (k0_pay1 cst_7192 v8237) Finset.univ (View.stores_vmem h_S32x128 (harg8.storeExact_slice rfl _ packedfp8e4m3_S512x7168_S32x128_480_6912) (fun _ => rfl)) (.inl rfl))
    let v8242 : Vec F S32x128 .f32 ← Prog.lift (.load arg10 (Rect.unit (s := S512x7168) ![480, 7040] S32x128.size inb_S512x7168_S32x128_480_7040).toLoadRect (View.loadsAt_vmem h_S32x128))
    let v8243 : Vec F S32x128 .f32 ← Prog.lift (.load arg11 (Rect.unit (s := S512x128) ![480, 0] S32x128.size inb_S512x128_S32x128_480_0).toLoadRect (View.loadsAt_vmem h_S32x128))
    let v8250 : Vec F S32x128 .fp8e4m3 ← Prog.lift (.load arg8 (Rect.unit (s := S512x7168) ![480, 7040] S32x128.size inb_S512x7168_S32x128_480_7040).toLoadRect (View.loadsAt_vmem h_S32x128))
    Prog.lift (.store arg8 (Rect.unit (s := S512x7168) ![480, 7040] S32x128.size inb_S512x7168_S32x128_480_7040) (k0_pay2 v8242 v8243) Finset.univ (View.stores_vmem h_S32x128 (harg8.storeExact_slice rfl _ packedfp8e4m3_S512x7168_S32x128_480_7040) (fun _ => rfl)) (.inl rfl))
    pure ⟨⟩
  else do
    pure ⟨⟩
  pure ⟨⟩

set_option maxRecDepth 65536 in
/-- The body is its two parts one after the other. -/
theorem body_eq (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) :
    cc0_gate_up (F := F) i arg2 harg2 arg3 harg3 arg4 harg4 arg5 harg5 arg6 harg6 arg7 harg7 arg8 harg8 arg9 harg9 arg10 harg10 arg11 harg11 arg12 harg12 = products i arg2 harg2 arg3 harg3 arg4 harg4 arg5 harg5 arg6 harg6 arg7 harg7 arg8 harg8 arg9 harg9 arg10 harg10 arg11 harg11 arg12 harg12 fun _ _ => encodeStep i arg2 harg2 arg3 harg3 arg4 harg4 arg5 harg5 arg6 harg6 arg7 harg7 arg8 harg8 arg9 harg9 arg10 harg10 arg11 harg11 arg12 harg12 := by
  rw [cc0_gate_up_eq_skeleton]; rfl

end Cert.UpIdeal.Hand

end
-- ==== Proof.UpIdealProd.lean ====
/-
  The run of the first part: the products and the hidden values.
-/
module

public import proofs.«01_k».proof.Proof.UpIdealBody
public import proofs.«01_k».proof.Proof.Gen.UpIdeal.Skeleton
public import proofs.«01_k».proof.Proof.Gen.UpIdeal.Points
public import Idealize.ShloMosaic.Lib.Ring
public import Idealize.ShloMosaic.Lib.Tactic
public import Idealize.ShloMosaic.Lib.WordCmp

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The first part at a row block's first step: what it leaves in the hidden values' array, from its contents
    `x10` before, and what it stores in the row maxima and the row scales. -/
def productsFirst (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ((Scalar.cmpi .ne (Scalar.extui (Scalar.cmpi .eq (BitVec.ofNat 32 (i 1).val) 0#32)) 0#32) = 1#1)) (x2 : Vec F S512x8192 .fp8e4m3) (x3 : Vec F S1x1x512 .f32) (x4 : Vec F S8192x512 .fp8e4m3) (x5 : Vec F S8192x512 .fp8e4m3) (x6 : Vec F S1x512 .f32) (x7 : Vec F S1x512 .f32) (x10 : Vec F S512x7168 .f32) :
    Σ' (W10 : BufTy.Contents (Elt F) arg10.view.ty) (L11 : List (View.Piece (Elt F) S512x128 .f32)), { L12 : List (View.Piece (Elt F) S512x128 .f32) //
      ∀ (E : Set ℕ) (k : BitVec 32 → BitVec 32 → Prog (TpuEff nD τ sig (Elt F) Λ₀ .tc) PUnit) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ (∃ d, owns (c : Thread nD τ) arg11 fullShare d) ∗ (∃ d, owns (c : Thread nD τ) arg12 fullShare d)
            ∗ (∀ a b, iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg10.view.loc (c : Thread nD τ) ↦[arg10.view.set]{fullShare} W10) ∗ (∃ f, (arg11.view.loc (c : Thread nD τ) ↦[arg11.view.set]{fullShare} arg11.view.writes (Elt F) (f) L11)) ∗ (∃ f, (arg12.view.loc (c : Thread nD τ) ↦[arg12.view.set]{fullShare} arg12.view.writes (Elt F) (f) L12)))
              -∗ wp frame (wpE (defs₀ (F := F)) Variants.none c none) E (k a b) K))
          ⊢ wp frame (wpE (defs₀ (F := F)) Variants.none c none) E (products i arg2 harg2 arg3 harg3 arg4 harg4 arg5 harg5 arg6 harg6 arg7 harg7 arg8 harg8 arg9 harg9 arg10 harg10 arg11 harg11 arg12 harg12 k) K } := by
  refine ⟨?_, ?_, ?_, fun E k K => ?run⟩
  case run =>
    unfold products
    simp only [k0_part275_eq_skeleton, k0_part276_eq_skeleton, k0_part277_eq_skeleton, k0_part278_eq_skeleton]
    unfold k0_part275_skel k0_part276_skel k0_part277_skel k0_part278_skel owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10
    sl_exec (disch := sl_exact hc0)
    dsimp only
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]; · iexact H10
    isplitl [H11]; · iexists _; iexact H11
    iexists _; iexact H12

set_option maxHeartbeats 4000000 in
/-- The first part at a later step: what it leaves in the hidden values' array, from its contents
    `x10` before, and what it stores in the row maxima, from theirs. -/
def productsLater (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ¬ ((Scalar.cmpi .ne (Scalar.extui (Scalar.cmpi .eq (BitVec.ofNat 32 (i 1).val) 0#32)) 0#32) = 1#1)) (x2 : Vec F S512x8192 .fp8e4m3) (x3 : Vec F S1x1x512 .f32) (x4 : Vec F S8192x512 .fp8e4m3) (x5 : Vec F S8192x512 .fp8e4m3) (x6 : Vec F S1x512 .f32) (x7 : Vec F S1x512 .f32) (x10 : Vec F S512x7168 .f32) (x11 : Vec F S512x128 .f32) (x12 : Vec F S512x128 .f32) :
    Σ' (W10 : BufTy.Contents (Elt F) arg10.view.ty), { L11 : List (View.Piece (Elt F) S512x128 .f32) //
      ∀ (E : Set ℕ) (k : BitVec 32 → BitVec 32 → Prog (TpuEff nD τ sig (Elt F) Λ₀ .tc) PUnit) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg10 fullShare x10 ∗ owns (c : Thread nD τ) arg11 fullShare x11 ∗ owns (c : Thread nD τ) arg12 fullShare x12
            ∗ (∀ a b, iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (arg10.view.loc (c : Thread nD τ) ↦[arg10.view.set]{fullShare} W10) ∗ (arg11.view.loc (c : Thread nD τ) ↦[arg11.view.set]{fullShare} arg11.view.writes (Elt F) (harg11.unread x11) L11) ∗ owns (c : Thread nD τ) arg12 fullShare x12)
              -∗ wp frame (wpE (defs₀ (F := F)) Variants.none c none) E (k a b) K))
          ⊢ wp frame (wpE (defs₀ (F := F)) Variants.none c none) E (products i arg2 harg2 arg3 harg3 arg4 harg4 arg5 harg5 arg6 harg6 arg7 harg7 arg8 harg8 arg9 harg9 arg10 harg10 arg11 harg11 arg12 harg12 k) K } := by
  refine ⟨?_, ?_, fun E k K => ?run⟩
  case run =>
    unfold products
    simp only [k0_part275_eq_skeleton, k0_part276_eq_skeleton, k0_part277_eq_skeleton, k0_part278_eq_skeleton]
    unfold k0_part275_skel k0_part276_skel k0_part277_skel k0_part278_skel owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12
    sl_exec (disch := sl_exact hc0)
    dsimp only
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H10]; · iexact H10
    isplitl [H11]; · iexact H11
    iexists _; isplitr; · ipureintro; exact harg12.read_unread _
    iexact H12

end Cert.UpIdeal.Hand

end
-- ==== Proof.UpIdealEnc.lean ====
/-
  The run of the second part: the scales and the codes.
-/
module

public import proofs.«01_k».proof.Proof.UpIdealBody
public import proofs.«01_k».proof.Proof.Gen.UpIdeal.Skeleton
public import proofs.«01_k».proof.Proof.Gen.UpIdeal.Points
public import Idealize.ShloMosaic.Lib.Ring
public import Idealize.ShloMosaic.Lib.Tactic
public import Idealize.ShloMosaic.Lib.WordCmp

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The second part on a row block's last step: from the hidden values `x10` and the row maxima `x11`, what it leaves in the
    codes and in the scales, as the list of what it stores (last first). -/
def encodeRun (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc1 : k0_cond2 i = 1#1) (x10 : Vec F S512x7168 .f32) (x11 : Vec F S512x128 .f32) :
    Σ' (L8 : List (View.Piece (Elt F) S512x7168 .fp8e4m3)), { L9 : List (View.Piece (Elt F) S1x1x512 .f32) //
      ∀ (E : Set ℕ) (K : PUnit → sProp 𝕄),
        iprop((∃ d, owns (c : Thread nD τ) arg8 fullShare d) ∗ (∃ d, owns (c : Thread nD τ) arg9 fullShare d) ∗ owns (c : Thread nD τ) arg10 fullShare x10 ∗ owns (c : Thread nD τ) arg11 fullShare x11
            ∗ (iprop((∃ f, arg8.view.loc (c : Thread nD τ) ↦[arg8.view.set]{fullShare} arg8.view.writes (Elt F) f L8)
                ∗ (∃ f, arg9.view.loc (c : Thread nD τ) ↦[arg9.view.set]{fullShare} arg9.view.writes (Elt F) f L9)
                ∗ owns (c : Thread nD τ) arg10 fullShare x10 ∗ (∃ d, owns (c : Thread nD τ) arg11 fullShare d)) -∗ K ⟨⟩))
          ⊢ wp frame (wpE (defs₀ (F := F)) Variants.none c none) E (encodeStep i arg2 harg2 arg3 harg3 arg4 harg4 arg5 harg5 arg6 harg6 arg7 harg7 arg8 harg8 arg9 harg9 arg10 harg10 arg11 harg11 arg12 harg12) K } := by
  refine ⟨?_, ?_, fun E K => ?run⟩
  case run =>
    unfold encodeStep owns
    iintro ⟨⟨%d8, %f8, -, H8⟩, ⟨%d9, %f9, -, H9⟩, ⟨%f10, %hf10, H10⟩, ⟨%f11, %hf11, H11⟩, Hk⟩
    obtain rfl := harg10.eq_unread hf10; obtain rfl := harg11.eq_unread hf11
    sl_exec_parts (disch := sl_exact hc1)
    sl_step
    iapply Hk
    isplitl [H8]; · iexists _; iexact H8
    isplitl [H9]; · iexists _; iexact H9
    isplitl [H10]
    · iexists _; isplitr; · ipureintro; exact harg10.read_unread _
      iexact H10
    iexists _, _; isplitr; swap; · iexact H11
    ipureintro; rfl

end Cert.UpIdeal.Hand

end
-- ==== Proof.UpIdealKit.lean ====
/-
  What the runs share: the conditions, the buffers at a point, and the second part where it is skipped.
-/
module

public import proofs.«01_k».proof.Proof.UpIdealProd
public import proofs.«01_k».proof.Proof.UpIdealEnc

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's branch conditions -/

/-- The condition of the body's `scf.if` 0 (`k0_h1`), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 14) — by arithmetic of the point. -/
theorem hcond0_0 : ∀ t : Fin cfg0.N, cond0_0 (grid0.coords t) ↔ t.val % 14 = 0 :=
  (fun t => by
    have ht : t.val < 42 := Nat.lt_of_lt_of_eq t.isLt N_0
    have e0 : (grid0.coords t 0).val = t.val / 14 % 3 := Pipeline.Grid.coords_val t 0 (by decide) rfl
    have e1 : (grid0.coords t 1).val = t.val / 1 % 14 := Pipeline.Grid.coords_val t 1 (by decide) rfl
    simp only [cond0_0, e0, e1]
    word_cmp
   : ∀ t : Fin grid0.N, cond0_0 (grid0.coords t) ↔ t.val % 14 = 0)

/-- The condition of the body's `scf.if` 1 (`k0_h2`), from the grid coordinates. -/
abbrev cond0_1 (i : grid0.Coords) : Prop := k0_cond2 i = 1#1
/-- It holds at the points ≡ 13 (mod 14) — by arithmetic of the point. -/
theorem hcond0_1 : ∀ t : Fin cfg0.N, cond0_1 (grid0.coords t) ↔ t.val % 14 = 13 :=
  (fun t => by
    have ht : t.val < 42 := Nat.lt_of_lt_of_eq t.isLt N_0
    have e0 : (grid0.coords t 0).val = t.val / 14 % 3 := Pipeline.Grid.coords_val t 0 (by decide) rfl
    have e1 : (grid0.coords t 1).val = t.val / 1 % 14 := Pipeline.Grid.coords_val t 1 (by decide) rfl
    simp only [cond0_1, k0_cond2, e0, e1]
    word_cmp
   : ∀ t : Fin grid0.N, cond0_1 (grid0.coords t) ↔ t.val % 14 = 13)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S512x8192 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x512 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8192x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x7168 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x512 .f32 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S512x7168 .f32 := Memref.whole cc0_scratch0
abbrev scM0_1 : Memref sig .tc .vmem S512x128 .f32 := Memref.whole cc0_scratch1
abbrev scM0_2 : Memref sig .tc .vmem S512x128 .f32 := Memref.whole cc0_scratch2
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

/-- Where the condition fails, the second part does nothing. -/
theorem encode_skip (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) (hc1 : ¬ k0_cond2 i = 1#1) (E : Set ℕ) (K : PUnit → sProp 𝕄) :
    K ⟨⟩ ⊢ wp frame (wpE (defs₀ (F := F)) Variants.none c none) E (encodeStep (F := F) i arg2 harg2 arg3 harg3 arg4 harg4 arg5 harg5 arg6 harg6 arg7 harg7 arg8 harg8 arg9 harg9 arg10 harg10 arg11 harg11 arg12 harg12) K := by
  iintro Hk
  unfold encodeStep
  sl_exec (disch := sl_exact hc1)
  sl_step
  iexact Hk

end Cert.UpIdeal.Hand

end
-- ==== Proof.UpSpec.lean ====
module

public import Idealize.ShloMosaic.PureOps
public import Idealize.ShloMosaic.Lib.Pointwise

@[expose] public section

noncomputable section

open Idealize.ShloMosaic

namespace Cert.UpSpec

/-- One hidden value from its two products, the row's scale and the two columns' scales. -/
def hid1 (p q s g u : EReal) : EReal := (p * s * g) * Ideal.logistic (p * s * g) * (q * s * u)

/-- A row's scale from the largest magnitude of its hidden values. -/
def scaleOf (a : EReal) : EReal := if a = 0 then 1 else Ideal.div a (Ideal.ofBits FTy.f32 1138753536#32)

/-- The code of the hidden value `h` at the scale `s`. -/
def codeOf (h s : EReal) : EReal :=
  min (Ideal.ofBits FTy.f32 1138753536#32) (max (Ideal.ofBits FTy.f32 3286237184#32) (Ideal.div h s))

/-- A hidden value's magnitude. -/
def mag (h : EReal) : EReal := FloatOps.absf (F := Ideal) (φ := .f32) h

/-- The largest of `n` magnitudes. -/
def largest {n : ℕ} (h : Fin n → EReal) : EReal := Finset.univ.fold max (Ideal.ofBits FTy.f32 4286578688#32) fun c => mag (h c)

section
variable (X : FVec Ideal ⟨2, ![1536, 8192]⟩ .fp8e4m3) (S : FVec Ideal ⟨1, ![1536]⟩ .f32) (WG WU : FVec Ideal ⟨2, ![8192, 7168]⟩ .fp8e4m3)
  (SG SU : FVec Ideal ⟨1, ![7168]⟩ .f32)

/-- The hidden value at row `r`, column `c`: the gate's linear map through `x * sigmoid x`, times the up projection's. -/
def hid (r : Fin 1536) (c : Fin 7168) : EReal :=
  hid1 (∑ k : Fin 8192, (X (ix2 r k) : EReal) * (WG (ix2 k c) : EReal)) (∑ k : Fin 8192, (X (ix2 r k) : EReal) * (WU (ix2 k c) : EReal))
    (S (ix1 r)) (SG (ix1 c)) (SU (ix1 c))

/-- The scale of row `r`. -/
def scale (r : Fin 1536) : EReal := scaleOf (largest fun c => hid X S WG WU SG SU r c)

/-- The hidden codes. -/
def codes : FVec Ideal ⟨2, ![1536, 7168]⟩ .fp8e4m3 := fun i => codeOf (hid X S WG WU SG SU (i 0) (i 1)) (scale X S WG WU SG SU (i 0))

/-- The rows' scales, laid out in three blocks of 512 rows. -/
def scales : FVec Ideal ⟨3, ![3, 1, 512]⟩ .f32 := fun i =>
  scale X S WG WU SG SU ⟨512 * (i 0).val + (i 2).val, by have h0 : (i 0).val < 3 := (i 0).isLt; have h2 : (i 2).val < 512 := (i 2).isLt; omega⟩
end

end Cert.UpSpec
end
-- ==== Proof.UpIdealProdVal.lean ====
/-
  What the first part leaves, in formulas.
-/
module

public import proofs.«01_k».proof.Proof.UpIdealProd
public import proofs.«01_k».proof.Proof.UpSpec
public import Idealize.ShloMosaic.Lib.VecWindow
public import Idealize.ShloMosaic.Lib.WholeRead
public import Idealize.ShloMosaic.Lib.Pointwise
public import Idealize.ShloMosaic.Lib.Pipeline.ValueKit
public import Idealize.ShloMosaic.Lib.Pipeline.ReadBack

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.UpSpec

theorem readAt_all (v : View sig .tc .vmem S512x128 .f32) (f : v.ty.Contents (Elt Ideal)) {inb : ∀ a, (![0, 0] : Fin 2 → ℕ) a + (![512, 128] : Fin 2 → ℕ) a ≤ S512x128.size a} :
    View.readAt (Elt Ideal) v (Rect.unit (s := S512x128) ![0, 0] ![512, 128] inb).toLoadRect f = v.read (Elt Ideal) f := View.readAt_full v f inb
theorem readAt_all2 (v : View sig .tc .vmem S512x8192 .fp8e4m3) (f : v.ty.Contents (Elt Ideal)) {inb : ∀ a, (![0, 0] : Fin 2 → ℕ) a + (![512, 8192] : Fin 2 → ℕ) a ≤ S512x8192.size a} :
    View.readAt (Elt Ideal) v (Rect.unit (s := S512x8192) ![0, 0] ![512, 8192] inb).toLoadRect f = v.read (Elt Ideal) f := View.readAt_full v f inb
theorem readAt_all3 (v : View sig .tc .vmem S1x1x512 .f32) (f : v.ty.Contents (Elt Ideal)) {inb : ∀ a, (![0, 0, 0] : Fin 3 → ℕ) a + (![1, 1, 512] : Fin 3 → ℕ) a ≤ S1x1x512.size a} :
    View.readAt (Elt Ideal) v (Rect.unit (s := S1x1x512) ![0, 0, 0] ![1, 1, 512] inb).toLoadRect f = v.read (Elt Ideal) f := View.readAt_full v f inb
theorem readCov_all (v : View sig .tc .vmem S512x128 .f32) {inb inb' : ∀ a, (![0, 0] : Fin 2 → ℕ) a + (![512, 128] : Fin 2 → ℕ) a ≤ S512x128.size a} (w : S512x128.Idx → Elt Ideal .f32)
    (L : List (View.Piece (Elt Ideal) S512x128 .f32)) :
    v.readCov (⟨Rect.unit (s := S512x128) ![0, 0] ![512, 128] inb, w⟩ :: L) (Rect.unit (s := S512x128) ![0, 0] ![512, 128] inb').toLoadRect = w := View.readCov_full v inb' inb w L
theorem read_all (v : View sig .tc .vmem S512x128 .f32) (f : v.ty.Contents (Elt Ideal)) {inb : ∀ a, (![0, 0] : Fin 2 → ℕ) a + (![512, 128] : Fin 2 → ℕ) a ≤ S512x128.size a} (w : S512x128.Idx → Elt Ideal .f32)
    (L : List (View.Piece (Elt Ideal) S512x128 .f32)) :
    v.read (Elt Ideal) (v.writes (Elt Ideal) f (⟨Rect.unit (s := S512x128) ![0, 0] ![512, 128] inb, w⟩ :: L)) = w := View.read_writes_full v f inb w L

/-- The hidden value of one step at row `r`, the step's column `q`, from the step's blocks and the rows' scales `s`. -/
def stepHid (x2 : Vec Ideal S512x8192 .fp8e4m3) (s : Vec Ideal S512x128 .f32) (x4 x5 : Vec Ideal S8192x512 .fp8e4m3) (x6 x7 : Vec Ideal S1x512 .f32)
    (r q : Fin 512) : EReal :=
  hid1 (∑ k : Fin 8192, (x2 (ix2 r k) : EReal) * (x4 (ix2 k q) : EReal)) (∑ k : Fin 8192, (x2 (ix2 r k) : EReal) * (x5 (ix2 k q) : EReal))
    (s (ix2 r ⟨q.val % 128, Nat.mod_lt _ (by decide)⟩)) (x6 (ix2 0 q)) (x7 (ix2 0 q))

/-- The running maximum `a` of row `r` in lane `l` after one step. -/
def stepMax (x2 : Vec Ideal S512x8192 .fp8e4m3) (s : Vec Ideal S512x128 .f32) (x4 x5 : Vec Ideal S8192x512 .fp8e4m3) (x6 x7 : Vec Ideal S1x512 .f32)
    (a : EReal) (r : Fin 512) (l : Fin 128) : EReal :=
  max (max (max (max a (mag (stepHid x2 s x4 x5 x6 x7 r ⟨0 + l.val, by omega⟩))) (mag (stepHid x2 s x4 x5 x6 x7 r ⟨128 + l.val, by omega⟩)))
    (mag (stepHid x2 s x4 x5 x6 x7 r ⟨256 + l.val, by omega⟩))) (mag (stepHid x2 s x4 x5 x6 x7 r ⟨384 + l.val, by omega⟩))

theorem readAt_cols {m : Memref sig .tc .vmem S8192x512 .fp8e4m3} (h : m.IsWhole) (X : Vec Ideal S8192x512 .fp8e4m3) (o : ℕ) (ho : o + 256 ≤ 512)
    {inb : ∀ a, (![0, o] : Fin 2 → ℕ) a + (![8192, 256] : Fin 2 → ℕ) a ≤ S8192x512.size a} (k : Fin 8192) (l : Fin 256) :
    View.readAt (Elt Ideal) m.view (Rect.unit (s := S8192x512) ![0, o] ![8192, 256] inb).toLoadRect (h.unread X) (ix2 k l) = X (ix2 k ⟨o + l.val, by omega⟩) := by
  rw [h.readAt_unread]
  refine congrArg X (funext fun a => ?_)
  fin_cases a
  · exact Fin.ext (by show 0 + 1 * k.val = k.val; omega)
  · exact Fin.ext (by show o + 1 * l.val = o + l.val; omega)

theorem readAt_lane {m : Memref sig .tc .vmem S1x512 .f32} (h : m.IsWhole) (X : Vec Ideal S1x512 .f32) (o : ℕ) (ho : o + 128 ≤ 512)
    {inb : ∀ a, (![0, o] : Fin 2 → ℕ) a + (![1, 128] : Fin 2 → ℕ) a ≤ S1x512.size a} (l : Fin 128) :
    View.readAt (Elt Ideal) m.view (Rect.unit (s := S1x512) ![0, o] ![1, 128] inb).toLoadRect (h.unread X) (ix2 0 l) = X (ix2 0 ⟨o + l.val, by omega⟩) := by
  rw [h.readAt_unread]
  refine congrArg X (funext fun a => ?_)
  fin_cases a
  · exact Fin.ext (by show 0 + 1 * 0 = 0; omega)
  · exact Fin.ext (by show o + 1 * l.val = o + l.val; omega)

theorem lane {o l : ℕ} (ho : 128 ∣ o) (hl : l < 128) : (o + l) % 128 = l := by omega

theorem cast_id {f : Vec Ideal S512x128 .f32} {h} (r : Fin 512) (l : Fin 128) : shapeCast S512x128 f h (ix2 r l) = f (ix2 r l) := by
  pointwise []
theorem pay1087_at (v : Vec Ideal S512x128 .f32) (r : Fin 512) (l : Fin 128) : k0_pay1087 (F := Ideal) v (ix2 r l) = v (ix2 r l) := cast_id r l
theorem pay1090_at (v5 v8 : Vec Ideal S512x256 .f32) (a : Vec Ideal S512x128 .f32) (b : Vec Ideal S1x128 .f32) (c : Vec Ideal S512x128 .f32) (d : Vec Ideal S1x128 .f32) (r : Fin 512) (l : Fin 128) :
    k0_pay1090 (F := Ideal) v5 v8 a b c d (ix2 r l) = k0_pay1089 (F := Ideal) v5 v8 a b c d (ix2 r l) := by
  unfold k0_pay1090; exact cast_id r l
theorem pay1096_at (x2 : Vec Ideal S512x8192 .fp8e4m3) (w4 w5 : Vec Ideal S8192x256 .fp8e4m3) (y2 : Vec Ideal S512x8192 .fp8e4m3) (a : Vec Ideal S512x128 .f32) (b : Vec Ideal S1x128 .f32) (c : Vec Ideal S512x128 .f32) (d : Vec Ideal S1x128 .f32) (r : Fin 512) (l : Fin 128) :
    k0_pay1096 (F := Ideal) x2 w4 y2 w5 a b c d (ix2 r l) = k0_pay1095 (F := Ideal) x2 w4 y2 w5 a b c d (ix2 r l) := by
  unfold k0_pay1096; exact cast_id r l
theorem pay1100_at (v5 v8 : Vec Ideal S512x256 .f32) (a : Vec Ideal S512x128 .f32) (b : Vec Ideal S1x128 .f32) (c : Vec Ideal S512x128 .f32) (d : Vec Ideal S1x128 .f32) (r : Fin 512) (l : Fin 128) :
    k0_pay1100 (F := Ideal) v5 v8 a b c d (ix2 r l) = k0_pay1099 (F := Ideal) v5 v8 a b c d (ix2 r l) := by
  unfold k0_pay1100; exact cast_id r l
theorem pay1088_at (v s : Vec Ideal S512x128 .f32) (r : Fin 512) (l : Fin 128) :
    (k0_pay1088 (F := Ideal) v s (ix2 r l) : EReal) = max (s (ix2 r l) : EReal) (mag (v (ix2 r l))) := by
  pointwise [k0_pay1088, mag]
theorem pay1091_at (v5 v8 : Vec Ideal S512x256 .f32) (a : Vec Ideal S512x128 .f32) (b : Vec Ideal S1x128 .f32) (c : Vec Ideal S512x128 .f32) (d : Vec Ideal S1x128 .f32) (e : Vec Ideal S512x128 .f32) (r : Fin 512) (l : Fin 128) :
    (k0_pay1091 (F := Ideal) v5 v8 a b c d e (ix2 r l) : EReal) = max (e (ix2 r l) : EReal) (mag (k0_pay1089 (F := Ideal) v5 v8 a b c d (ix2 r l))) := by
  unfold k0_pay1091
  generalize k0_pay1089 (F := Ideal) v5 v8 a b c d = h
  pointwise [mag]
theorem pay1092_at (v : Vec Ideal S512x128 .f32) (r : Fin 512) (l : Fin 128) :
    (k0_pay1092 (F := Ideal) v (ix2 r l) : EReal) = v (ix2 r l) := by
  pointwise [k0_pay1092]
theorem pay1097_at (x2 : Vec Ideal S512x8192 .fp8e4m3) (w4 w5 : Vec Ideal S8192x256 .fp8e4m3) (y2 : Vec Ideal S512x8192 .fp8e4m3) (a : Vec Ideal S512x128 .f32) (b : Vec Ideal S1x128 .f32) (c : Vec Ideal S512x128 .f32) (d : Vec Ideal S1x128 .f32) (r : Fin 512) (l : Fin 128) :
    (k0_pay1097 (F := Ideal) x2 w4 y2 w5 a b c d (ix2 r l) : EReal) = mag (k0_pay1095 (F := Ideal) x2 w4 y2 w5 a b c d (ix2 r l)) := rfl
theorem pay1098_at (v s : Vec Ideal S512x128 .f32) (r : Fin 512) (l : Fin 128) :
    (k0_pay1098 (F := Ideal) v s (ix2 r l) : EReal) = max (v (ix2 r l) : EReal) (s (ix2 r l)) := by
  pointwise [k0_pay1098]
theorem pay1101_at (v5 v8 : Vec Ideal S512x256 .f32) (a : Vec Ideal S512x128 .f32) (b : Vec Ideal S1x128 .f32) (c : Vec Ideal S512x128 .f32) (d : Vec Ideal S1x128 .f32) (e : Vec Ideal S512x128 .f32) (r : Fin 512) (l : Fin 128) :
    (k0_pay1101 (F := Ideal) v5 v8 a b c d e (ix2 r l) : EReal) = max (e (ix2 r l) : EReal) (mag (k0_pay1099 (F := Ideal) v5 v8 a b c d (ix2 r l))) := by
  unfold k0_pay1101
  generalize k0_pay1099 (F := Ideal) v5 v8 a b c d = h
  pointwise [mag]

theorem v1086 (x2 : Vec Ideal S512x8192 .fp8e4m3) (w4 w5 : Vec Ideal S8192x256 .fp8e4m3) (s : Vec Ideal S512x128 .f32) (g u : Vec Ideal S1x128 .f32)
    (x4 x5 : Vec Ideal S8192x512 .fp8e4m3) (x6 x7 : Vec Ideal S1x512 .f32)
    (h4 : ∀ (k : Fin 8192) (l : Fin 256), w4 (ix2 k l) = x4 (ix2 k ⟨0 + l.val, by omega⟩)) (h5 : ∀ (k : Fin 8192) (l : Fin 256), w5 (ix2 k l) = x5 (ix2 k ⟨0 + l.val, by omega⟩))
    (h6 : ∀ l : Fin 128, g (ix2 0 l) = x6 (ix2 0 ⟨0 + l.val, by omega⟩)) (h7 : ∀ l : Fin 128, u (ix2 0 l) = x7 (ix2 0 ⟨0 + l.val, by omega⟩)) (r : Fin 512) (l : Fin 128) :
    (k0_pay1086 (F := Ideal) x2 w4 x2 w5 s g s u (ix2 r l) : EReal) = stepHid x2 s x4 x5 x6 x7 r ⟨0 + l.val, by omega⟩ := by
  pointwise [k0_pay1086, k0_pay1084, k0_pay1085, stepHid, hid1]
  simp only [h4, h5, h6, h7]
  blk_point []

theorem v1089 (x2 : Vec Ideal S512x8192 .fp8e4m3) (w4 w5 : Vec Ideal S8192x256 .fp8e4m3) (s : Vec Ideal S512x128 .f32) (g u : Vec Ideal S1x128 .f32)
    (x4 x5 : Vec Ideal S8192x512 .fp8e4m3) (x6 x7 : Vec Ideal S1x512 .f32)
    (h4 : ∀ (k : Fin 8192) (l : Fin 256), w4 (ix2 k l) = x4 (ix2 k ⟨0 + l.val, by omega⟩)) (h5 : ∀ (k : Fin 8192) (l : Fin 256), w5 (ix2 k l) = x5 (ix2 k ⟨0 + l.val, by omega⟩))
    (h6 : ∀ l : Fin 128, g (ix2 0 l) = x6 (ix2 0 ⟨128 + l.val, by omega⟩)) (h7 : ∀ l : Fin 128, u (ix2 0 l) = x7 (ix2 0 ⟨128 + l.val, by omega⟩)) (r : Fin 512) (l : Fin 128) :
    (k0_pay1089 (F := Ideal) (k0_pay1084 x2 w4) (k0_pay1085 x2 w5) s g s u (ix2 r l) : EReal) = stepHid x2 s x4 x5 x6 x7 r ⟨128 + l.val, by omega⟩ := by
  pointwise [k0_pay1089, k0_pay1084, k0_pay1085, stepHid, hid1]
  simp only [h4, h5, h6, h7]
  blk_point []

theorem v1095 (x2 : Vec Ideal S512x8192 .fp8e4m3) (w4 w5 : Vec Ideal S8192x256 .fp8e4m3) (s : Vec Ideal S512x128 .f32) (g u : Vec Ideal S1x128 .f32)
    (x4 x5 : Vec Ideal S8192x512 .fp8e4m3) (x6 x7 : Vec Ideal S1x512 .f32)
    (h4 : ∀ (k : Fin 8192) (l : Fin 256), w4 (ix2 k l) = x4 (ix2 k ⟨256 + l.val, by omega⟩)) (h5 : ∀ (k : Fin 8192) (l : Fin 256), w5 (ix2 k l) = x5 (ix2 k ⟨256 + l.val, by omega⟩))
    (h6 : ∀ l : Fin 128, g (ix2 0 l) = x6 (ix2 0 ⟨256 + l.val, by omega⟩)) (h7 : ∀ l : Fin 128, u (ix2 0 l) = x7 (ix2 0 ⟨256 + l.val, by omega⟩)) (r : Fin 512) (l : Fin 128) :
    (k0_pay1095 (F := Ideal) x2 w4 x2 w5 s g s u (ix2 r l) : EReal) = stepHid x2 s x4 x5 x6 x7 r ⟨256 + l.val, by omega⟩ := by
  pointwise [k0_pay1095, k0_pay1093, k0_pay1094, stepHid, hid1]
  simp only [h4, h5, h6, h7]
  blk_point []

theorem v1099 (x2 : Vec Ideal S512x8192 .fp8e4m3) (w4 w5 : Vec Ideal S8192x256 .fp8e4m3) (s : Vec Ideal S512x128 .f32) (g u : Vec Ideal S1x128 .f32)
    (x4 x5 : Vec Ideal S8192x512 .fp8e4m3) (x6 x7 : Vec Ideal S1x512 .f32)
    (h4 : ∀ (k : Fin 8192) (l : Fin 256), w4 (ix2 k l) = x4 (ix2 k ⟨256 + l.val, by omega⟩)) (h5 : ∀ (k : Fin 8192) (l : Fin 256), w5 (ix2 k l) = x5 (ix2 k ⟨256 + l.val, by omega⟩))
    (h6 : ∀ l : Fin 128, g (ix2 0 l) = x6 (ix2 0 ⟨384 + l.val, by omega⟩)) (h7 : ∀ l : Fin 128, u (ix2 0 l) = x7 (ix2 0 ⟨384 + l.val, by omega⟩)) (r : Fin 512) (l : Fin 128) :
    (k0_pay1099 (F := Ideal) (k0_pay1093 x2 w4) (k0_pay1094 x2 w5) s g s u (ix2 r l) : EReal) = stepHid x2 s x4 x5 x6 x7 r ⟨384 + l.val, by omega⟩ := by
  pointwise [k0_pay1099, k0_pay1093, k0_pay1094, stepHid, hid1]
  simp only [h4, h5, h6, h7]
  blk_point []

theorem off_val (i : grid0.Coords) : (k0_off1 i 0#32 0#32 1 = 512 * (i 1).val + 0 ∧ k0_off1 i 0#32 128#32 1 = 512 * (i 1).val + 128)
    ∧ k0_off1 i 256#32 0#32 1 = 512 * (i 1).val + 256 ∧ k0_off1 i 256#32 128#32 1 = 512 * (i 1).val + 384 := by
  have h : ∀ f : Fin 14, ((Scalar.addi (Scalar.addi (Scalar.muli (BitVec.ofNat 32 f.val) 512#32) 0#32) 0#32).toNat = 512 * f.val + 0
      ∧ (Scalar.addi (Scalar.addi (Scalar.muli (BitVec.ofNat 32 f.val) 512#32) 0#32) 128#32).toNat = 512 * f.val + 128)
      ∧ (Scalar.addi (Scalar.addi (Scalar.muli (BitVec.ofNat 32 f.val) 512#32) 256#32) 0#32).toNat = 512 * f.val + 256
      ∧ (Scalar.addi (Scalar.addi (Scalar.muli (BitVec.ofNat 32 f.val) 512#32) 256#32) 128#32).toNat = 512 * f.val + 384 := by decide +kernel
  exact h (i 1)

/-- Four pieces of 128 columns, stored over the array that holds `x10`. -/
theorem read_four (m : Memref sig .tc .vmem S512x7168 .f32) (h : m.IsWhole) (i : grid0.Coords) (p0 p1 p2 p3 : Vec Ideal S512x128 .f32)
    (x2 : Vec Ideal S512x8192 .fp8e4m3) (s : Vec Ideal S512x128 .f32) (x4 x5 : Vec Ideal S8192x512 .fp8e4m3) (x6 x7 : Vec Ideal S1x512 .f32) (x10 : Vec Ideal S512x7168 .f32)
    (h0 : ∀ (r : Fin 512) (l : Fin 128), (p0 (ix2 r l) : EReal) = stepHid x2 s x4 x5 x6 x7 r ⟨0 + l.val, by omega⟩)
    (h1 : ∀ (r : Fin 512) (l : Fin 128), (p1 (ix2 r l) : EReal) = stepHid x2 s x4 x5 x6 x7 r ⟨128 + l.val, by omega⟩)
    (h2 : ∀ (r : Fin 512) (l : Fin 128), (p2 (ix2 r l) : EReal) = stepHid x2 s x4 x5 x6 x7 r ⟨256 + l.val, by omega⟩)
    (h3 : ∀ (r : Fin 512) (l : Fin 128), (p3 (ix2 r l) : EReal) = stepHid x2 s x4 x5 x6 x7 r ⟨384 + l.val, by omega⟩)
    {b0 : ∀ a, k0_off1 i 0#32 0#32 a + (![512, 128] : Fin 2 → ℕ) a ≤ S512x7168.size a} {b1 : ∀ a, k0_off1 i 0#32 128#32 a + (![512, 128] : Fin 2 → ℕ) a ≤ S512x7168.size a}
    {b2 : ∀ a, k0_off1 i 256#32 0#32 a + (![512, 128] : Fin 2 → ℕ) a ≤ S512x7168.size a} {b3 : ∀ a, k0_off1 i 256#32 128#32 a + (![512, 128] : Fin 2 → ℕ) a ≤ S512x7168.size a}
    (r : Fin 512) (col : Fin 7168) :
    m.view.read (Elt Ideal) (m.view.writes (Elt Ideal) (h.unread x10)
        [⟨Rect.unit (s := S512x7168) (k0_off1 i 256#32 128#32) ![512, 128] b3, p3⟩, ⟨Rect.unit (s := S512x7168) (k0_off1 i 256#32 0#32) ![512, 128] b2, p2⟩,
         ⟨Rect.unit (s := S512x7168) (k0_off1 i 0#32 128#32) ![512, 128] b1, p1⟩, ⟨Rect.unit (s := S512x7168) (k0_off1 i 0#32 0#32) ![512, 128] b0, p0⟩]) (ix2 r col)
      = if h : 512 * (i 1).val ≤ col.val ∧ col.val < 512 * (i 1).val + 512 then stepHid x2 s x4 x5 x6 x7 r ⟨col.val - 512 * (i 1).val, by omega⟩ else x10 (ix2 r col) := by
  obtain ⟨⟨e0, e1⟩, e2, e3⟩ := off_val i
  have key : ∀ (o : ℕ) (ho : o + 128 ≤ 512) (p : Vec Ideal S512x128 .f32) (hp : ∀ (r : Fin 512) (l : Fin 128), (p (ix2 r l) : EReal) = stepHid x2 s x4 x5 x6 x7 r ⟨o + l.val, by omega⟩)
      (off : Fin 2 → ℕ) (z0 : off 0 = 0) (z1 : off 1 = 512 * (i 1).val + o) (b : ∀ a, off a + (![512, 128] : Fin 2 → ℕ) a ≤ S512x7168.size a) (L) (hc : 512 * (i 1).val + o ≤ col.val ∧ col.val < 512 * (i 1).val + o + 128),
      m.view.read (Elt Ideal) (m.view.writes (Elt Ideal) (h.unread x10) (⟨Rect.unit (s := S512x7168) off ![512, 128] b, p⟩ :: L)) (ix2 r col)
        = stepHid x2 s x4 x5 x6 x7 r ⟨col.val - 512 * (i 1).val, by omega⟩ := by
    intro o ho p hp off z0 z1 b L hc
    rw [View.read_writes_cons_hit_of_coords _ _ _ _ _ (ix2 r ⟨col.val - (512 * (i 1).val + o), by omega⟩ : S512x128.Idx)]
    · rw [hp]
      exact congrArg _ (Fin.ext (by show o + (col.val - (512 * (i 1).val + o)) = col.val - 512 * (i 1).val; omega))
    · intro a
      fin_cases a
      · show r.val = off 0 + 1 * r.val; omega
      · show col.val = off 1 + 1 * (col.val - (512 * (i 1).val + o)); omega
  have miss : ∀ (o : ℕ) (p : Vec Ideal S512x128 .f32)
      (off : Fin 2 → ℕ) (z1 : off 1 = 512 * (i 1).val + o) (b : ∀ a, off a + (![512, 128] : Fin 2 → ℕ) a ≤ S512x7168.size a) (L) (hc : ¬ (512 * (i 1).val + o ≤ col.val ∧ col.val < 512 * (i 1).val + o + 128)),
      m.view.read (Elt Ideal) (m.view.writes (Elt Ideal) (h.unread x10) (⟨Rect.unit (s := S512x7168) off ![512, 128] b, p⟩ :: L)) (ix2 r col)
        = m.view.read (Elt Ideal) (m.view.writes (Elt Ideal) (h.unread x10) L) (ix2 r col) := by
    intro o p off z1 b L hc
    exact View.read_writes_cons_miss_of_axis _ _ _ _ _ 1 (512 * (i 1).val + o) 128 z1 rfl rfl (by show col.val < _ ∨ _ ≤ col.val; omega)
  by_cases c3 : 512 * (i 1).val + 384 ≤ col.val ∧ col.val < 512 * (i 1).val + 384 + 128
  · rw [key 384 (by omega) p3 h3 _ rfl e3 _ _ c3, dif_pos (by omega)]
  rw [miss 384 p3 _ e3 _ _ c3]
  by_cases c2 : 512 * (i 1).val + 256 ≤ col.val ∧ col.val < 512 * (i 1).val + 256 + 128
  · rw [key 256 (by omega) p2 h2 _ rfl e2 _ _ c2, dif_pos (by omega)]
  rw [miss 256 p2 _ e2 _ _ c2]
  by_cases c1 : 512 * (i 1).val + 128 ≤ col.val ∧ col.val < 512 * (i 1).val + 128 + 128
  · rw [key 128 (by omega) p1 h1 _ rfl e1 _ _ c1, dif_pos (by omega)]
  rw [miss 128 p1 _ e1 _ _ c1]
  by_cases c0 : 512 * (i 1).val + 0 ≤ col.val ∧ col.val < 512 * (i 1).val + 0 + 128
  · rw [key 0 (by omega) p0 h0 _ rfl e0 _ _ c0, dif_pos (by omega)]
  rw [miss 0 p0 _ e0 _ _ c0, dif_neg (by omega)]
  exact congrFun (h.read_unread x10) _

/-- The hidden values' array after the first part at a later step. -/
theorem hid_Later (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ¬ ((Scalar.cmpi .ne (Scalar.extui (Scalar.cmpi .eq (BitVec.ofNat 32 (i 1).val) 0#32)) 0#32) = 1#1)) (x2 : Vec Ideal S512x8192 .fp8e4m3) (x3 : Vec Ideal S1x1x512 .f32) (x4 : Vec Ideal S8192x512 .fp8e4m3) (x5 : Vec Ideal S8192x512 .fp8e4m3) (x6 : Vec Ideal S1x512 .f32) (x7 : Vec Ideal S1x512 .f32) (x10 : Vec Ideal S512x7168 .f32) (x11 : Vec Ideal S512x128 .f32) (x12 : Vec Ideal S512x128 .f32) (r : Fin 512) (col : Fin 7168) :
    arg10.view.read (Elt Ideal) (productsLater (F := Ideal) c i arg2 harg2 arg3 harg3 arg4 harg4 arg5 harg5 arg6 harg6 arg7 harg7 arg8 harg8 arg9 harg9 arg10 harg10 arg11 harg11 arg12 harg12 hc0 x2 x3 x4 x5 x6 x7 x10 x11 x12).1 (ix2 r col)
      = if h : 512 * (i 1).val ≤ col.val ∧ col.val < 512 * (i 1).val + 512 then stepHid x2 x12 x4 x5 x6 x7 r ⟨col.val - 512 * (i 1).val, by omega⟩ else x10 (ix2 r col) := by
  unfold productsLater
  sl_unfold_run_names
  dsimp only
  simp only [readAt_all, readAt_all2, readAt_all3, readCov_all, read_all, harg2.read_unread, harg3.read_unread, harg11.read_unread, harg12.read_unread]
  refine read_four arg10 harg10 i _ _ _ _ x2 x12 x4 x5 x6 x7 x10 ?_ ?_ ?_ ?_ r col
  · intro r l; refine (pay1087_at _ r l).trans ?_; exact v1086 _ _ _ _ _ _ _ _ _ _ (readAt_cols harg4 x4 0 (by decide)) (readAt_cols harg5 x5 0 (by decide)) (readAt_lane harg6 x6 0 (by decide)) (readAt_lane harg7 x7 0 (by decide)) r l
  · intro r l; refine (pay1090_at _ _ _ _ _ _ r l).trans ?_; exact v1089 _ _ _ _ _ _ _ _ _ _ (readAt_cols harg4 x4 0 (by decide)) (readAt_cols harg5 x5 0 (by decide)) (readAt_lane harg6 x6 128 (by decide)) (readAt_lane harg7 x7 128 (by decide)) r l
  · intro r l; refine (pay1096_at _ _ _ _ _ _ _ _ r l).trans ?_; exact v1095 _ _ _ _ _ _ _ _ _ _ (readAt_cols harg4 x4 256 (by decide)) (readAt_cols harg5 x5 256 (by decide)) (readAt_lane harg6 x6 256 (by decide)) (readAt_lane harg7 x7 256 (by decide)) r l
  · intro r l; refine (pay1100_at _ _ _ _ _ _ r l).trans ?_; exact v1099 _ _ _ _ _ _ _ _ _ _ (readAt_cols harg4 x4 256 (by decide)) (readAt_cols harg5 x5 256 (by decide)) (readAt_lane harg6 x6 384 (by decide)) (readAt_lane harg7 x7 384 (by decide)) r l

/-- The row maxima after the first part at a later step. -/
theorem max_Later (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ¬ ((Scalar.cmpi .ne (Scalar.extui (Scalar.cmpi .eq (BitVec.ofNat 32 (i 1).val) 0#32)) 0#32) = 1#1)) (x2 : Vec Ideal S512x8192 .fp8e4m3) (x3 : Vec Ideal S1x1x512 .f32) (x4 : Vec Ideal S8192x512 .fp8e4m3) (x5 : Vec Ideal S8192x512 .fp8e4m3) (x6 : Vec Ideal S1x512 .f32) (x7 : Vec Ideal S1x512 .f32) (x10 : Vec Ideal S512x7168 .f32) (x11 : Vec Ideal S512x128 .f32) (x12 : Vec Ideal S512x128 .f32) (r : Fin 512) (l : Fin 128) :
    (arg11.view.read (Elt Ideal) (arg11.view.writes (Elt Ideal) (harg11.unread x11) (productsLater (F := Ideal) c i arg2 harg2 arg3 harg3 arg4 harg4 arg5 harg5 arg6 harg6 arg7 harg7 arg8 harg8 arg9 harg9 arg10 harg10 arg11 harg11 arg12 harg12 hc0 x2 x3 x4 x5 x6 x7 x10 x11 x12).2.1) (ix2 r l) : EReal)
      = stepMax x2 x12 x4 x5 x6 x7 (x11 (ix2 r l)) r l := by
  unfold productsLater
  sl_unfold_run_names
  dsimp only
  simp only [readAt_all, readAt_all2, readAt_all3, readCov_all, read_all, harg2.read_unread, harg3.read_unread, harg11.read_unread, harg12.read_unread]
  refine (pay1101_at _ _ _ _ _ _ _ _ _).trans ?_
  rw [pay1098_at, pay1092_at, pay1091_at, pay1088_at, pay1097_at]
  rw [v1086 _ _ _ _ _ _ _ _ _ _ (readAt_cols harg4 x4 0 (by decide)) (readAt_cols harg5 x5 0 (by decide)) (readAt_lane harg6 x6 0 (by decide)) (readAt_lane harg7 x7 0 (by decide)) r l,
    v1089 _ _ _ _ _ _ _ _ _ _ (readAt_cols harg4 x4 0 (by decide)) (readAt_cols harg5 x5 0 (by decide)) (readAt_lane harg6 x6 128 (by decide)) (readAt_lane harg7 x7 128 (by decide)) r l,
    v1095 _ _ _ _ _ _ _ _ _ _ (readAt_cols harg4 x4 256 (by decide)) (readAt_cols harg5 x5 256 (by decide)) (readAt_lane harg6 x6 256 (by decide)) (readAt_lane harg7 x7 256 (by decide)) r l,
    v1099 _ _ _ _ _ _ _ _ _ _ (readAt_cols harg4 x4 256 (by decide)) (readAt_cols harg5 x5 256 (by decide)) (readAt_lane harg6 x6 384 (by decide)) (readAt_lane harg7 x7 384 (by decide)) r l]
  rfl

/-- The hidden values' array after the first part at a row block's first step. -/
theorem hid_First (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ((Scalar.cmpi .ne (Scalar.extui (Scalar.cmpi .eq (BitVec.ofNat 32 (i 1).val) 0#32)) 0#32) = 1#1)) (x2 : Vec Ideal S512x8192 .fp8e4m3) (x3 : Vec Ideal S1x1x512 .f32) (x4 : Vec Ideal S8192x512 .fp8e4m3) (x5 : Vec Ideal S8192x512 .fp8e4m3) (x6 : Vec Ideal S1x512 .f32) (x7 : Vec Ideal S1x512 .f32) (x10 : Vec Ideal S512x7168 .f32) (r : Fin 512) (col : Fin 7168) :
    arg10.view.read (Elt Ideal) (productsFirst (F := Ideal) c i arg2 harg2 arg3 harg3 arg4 harg4 arg5 harg5 arg6 harg6 arg7 harg7 arg8 harg8 arg9 harg9 arg10 harg10 arg11 harg11 arg12 harg12 hc0 x2 x3 x4 x5 x6 x7 x10).1 (ix2 r col)
      = if h : 512 * (i 1).val ≤ col.val ∧ col.val < 512 * (i 1).val + 512 then stepHid x2 (k0_pay1082 (F := Ideal) x3) x4 x5 x6 x7 r ⟨col.val - 512 * (i 1).val, by omega⟩ else x10 (ix2 r col) := by
  unfold productsFirst
  sl_unfold_run_names
  dsimp only
  simp only [readAt_all, readAt_all2, readAt_all3, readCov_all, read_all, harg2.read_unread, harg3.read_unread, harg11.read_unread, harg12.read_unread]
  refine read_four arg10 harg10 i _ _ _ _ x2 (k0_pay1082 (F := Ideal) x3) x4 x5 x6 x7 x10 ?_ ?_ ?_ ?_ r col
  · intro r l; refine (pay1087_at _ r l).trans ?_; exact v1086 _ _ _ _ _ _ _ _ _ _ (readAt_cols harg4 x4 0 (by decide)) (readAt_cols harg5 x5 0 (by decide)) (readAt_lane harg6 x6 0 (by decide)) (readAt_lane harg7 x7 0 (by decide)) r l
  · intro r l; refine (pay1090_at _ _ _ _ _ _ r l).trans ?_; exact v1089 _ _ _ _ _ _ _ _ _ _ (readAt_cols harg4 x4 0 (by decide)) (readAt_cols harg5 x5 0 (by decide)) (readAt_lane harg6 x6 128 (by decide)) (readAt_lane harg7 x7 128 (by decide)) r l
  · intro r l; refine (pay1096_at _ _ _ _ _ _ _ _ r l).trans ?_; exact v1095 _ _ _ _ _ _ _ _ _ _ (readAt_cols harg4 x4 256 (by decide)) (readAt_cols harg5 x5 256 (by decide)) (readAt_lane harg6 x6 256 (by decide)) (readAt_lane harg7 x7 256 (by decide)) r l
  · intro r l; refine (pay1100_at _ _ _ _ _ _ r l).trans ?_; exact v1099 _ _ _ _ _ _ _ _ _ _ (readAt_cols harg4 x4 256 (by decide)) (readAt_cols harg5 x5 256 (by decide)) (readAt_lane harg6 x6 384 (by decide)) (readAt_lane harg7 x7 384 (by decide)) r l

/-- The row maxima after the first part at a row block's first step. -/
theorem max_First (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ((Scalar.cmpi .ne (Scalar.extui (Scalar.cmpi .eq (BitVec.ofNat 32 (i 1).val) 0#32)) 0#32) = 1#1)) (x2 : Vec Ideal S512x8192 .fp8e4m3) (x3 : Vec Ideal S1x1x512 .f32) (x4 : Vec Ideal S8192x512 .fp8e4m3) (x5 : Vec Ideal S8192x512 .fp8e4m3) (x6 : Vec Ideal S1x512 .f32) (x7 : Vec Ideal S1x512 .f32) (x10 : Vec Ideal S512x7168 .f32) (f) (r : Fin 512) (l : Fin 128) :
    (arg11.view.read (Elt Ideal) (arg11.view.writes (Elt Ideal) f (productsFirst (F := Ideal) c i arg2 harg2 arg3 harg3 arg4 harg4 arg5 harg5 arg6 harg6 arg7 harg7 arg8 harg8 arg9 harg9 arg10 harg10 arg11 harg11 arg12 harg12 hc0 x2 x3 x4 x5 x6 x7 x10).2.1) (ix2 r l) : EReal)
      = stepMax x2 (k0_pay1082 (F := Ideal) x3) x4 x5 x6 x7 ((k0_pay1083 (F := Ideal)) (ix2 r l)) r l := by
  unfold productsFirst
  sl_unfold_run_names
  dsimp only
  simp only [readAt_all, readAt_all2, readAt_all3, readCov_all, read_all, harg2.read_unread, harg3.read_unread, harg11.read_unread, harg12.read_unread]
  refine (pay1101_at _ _ _ _ _ _ _ _ _).trans ?_
  rw [pay1098_at, pay1092_at, pay1091_at, pay1088_at, pay1097_at]
  rw [v1086 _ _ _ _ _ _ _ _ _ _ (readAt_cols harg4 x4 0 (by decide)) (readAt_cols harg5 x5 0 (by decide)) (readAt_lane harg6 x6 0 (by decide)) (readAt_lane harg7 x7 0 (by decide)) r l,
    v1089 _ _ _ _ _ _ _ _ _ _ (readAt_cols harg4 x4 0 (by decide)) (readAt_cols harg5 x5 0 (by decide)) (readAt_lane harg6 x6 128 (by decide)) (readAt_lane harg7 x7 128 (by decide)) r l,
    v1095 _ _ _ _ _ _ _ _ _ _ (readAt_cols harg4 x4 256 (by decide)) (readAt_cols harg5 x5 256 (by decide)) (readAt_lane harg6 x6 256 (by decide)) (readAt_lane harg7 x7 256 (by decide)) r l,
    v1099 _ _ _ _ _ _ _ _ _ _ (readAt_cols harg4 x4 256 (by decide)) (readAt_cols harg5 x5 256 (by decide)) (readAt_lane harg6 x6 384 (by decide)) (readAt_lane harg7 x7 384 (by decide)) r l]
  rfl

/-- The rows' scales after the first part at a row block's first step. -/
theorem scl_First (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc0 : ((Scalar.cmpi .ne (Scalar.extui (Scalar.cmpi .eq (BitVec.ofNat 32 (i 1).val) 0#32)) 0#32) = 1#1)) (x2 : Vec Ideal S512x8192 .fp8e4m3) (x3 : Vec Ideal S1x1x512 .f32) (x4 : Vec Ideal S8192x512 .fp8e4m3) (x5 : Vec Ideal S8192x512 .fp8e4m3) (x6 : Vec Ideal S1x512 .f32) (x7 : Vec Ideal S1x512 .f32) (x10 : Vec Ideal S512x7168 .f32) (f) :
    arg12.view.read (Elt Ideal) (arg12.view.writes (Elt Ideal) f (productsFirst (F := Ideal) c i arg2 harg2 arg3 harg3 arg4 harg4 arg5 harg5 arg6 harg6 arg7 harg7 arg8 harg8 arg9 harg9 arg10 harg10 arg11 harg11 arg12 harg12 hc0 x2 x3 x4 x5 x6 x7 x10).2.2.1) = (k0_pay1082 (F := Ideal) x3) := by
  unfold productsFirst
  sl_unfold_run_names
  dsimp only
  simp only [readAt_all, readAt_all2, readAt_all3, readCov_all, read_all, harg2.read_unread, harg3.read_unread, harg11.read_unread, harg12.read_unread]

end Cert.UpIdeal.Hand

end
-- ==== Proof.UpIdealEncVal.lean ====
/-
  What the second part stores.
-/
module

public import proofs.«01_k».proof.Proof.UpIdealEnc
public import Idealize.ShloMosaic.Lib.Pipeline.ReadBack
public import Idealize.ShloMosaic.Lib.Pipeline.ValueKit
public import Idealize.ShloMosaic.Lib.VecWindow
public import proofs.«01_k».proof.Proof.Gen.UpIdeal.Skeleton
public import proofs.«01_k».proof.Proof.Gen.UpIdeal.Points
public import Idealize.ShloMosaic.Lib.Ring
public import Idealize.ShloMosaic.Lib.Tactic
public import Idealize.ShloMosaic.Lib.WordCmp

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

/-- The code of one hidden value `h` at the scale `s`. -/
def code (h s : Ideal .f32) : Ideal .fp8e4m3 :=
  k0_pay9 (fun _ => h) (fun _ => s) (ix2 0 0)

/-- A row's scale stands in every column of the scale array. -/
theorem pay3_row (x : Vec Ideal S512x128 .f32) (r : Fin 512) (l : Fin 128) : k0_pay3 (F := Ideal) x (ix2 r l) = k0_pay3 (F := Ideal) x (ix2 r 0) := by
  pointwise [k0_pay3]

theorem pay3_row' (x : Vec Ideal S512x128 .f32) (j : S512x128.Idx) : k0_pay3 (F := Ideal) x j = k0_pay3 (F := Ideal) x (ix2 (j 0) 0) := by
  obtain ⟨a, b, rfl⟩ : ∃ a b, j = ix2 a b := ⟨j 0, j 1, by funext k; fin_cases k <;> rfl⟩
  exact pay3_row x a b

/-- The codes of the hidden values `x10` at the rows' scales. -/
def codes (x10 : Vec Ideal S512x7168 .f32) (x11 : Vec Ideal S512x128 .f32) : Vec Ideal S512x7168 .fp8e4m3 :=
  fun y => code (x10 y) (k0_pay3 x11 (ix2 (y 0) 0))

/-- A whole store read back through any load. -/
theorem readCov_whole (v : View sig .tc .vmem S512x128 .f32) (inb : ∀ a, (![0, 0] : Fin 2 → ℕ) a + S512x128.size a ≤ S512x128.size a)
    (w : S512x128.Idx → Elt Ideal .f32) (B : LoadRect S512x128) (x : B.shape.Idx) :
    v.readCov [⟨Rect.unit ![0, 0] S512x128.size inb, w⟩] B x = w (B.idx x) := by
  have h := View.readCov_full (Val := Elt Ideal) v inb inb w []
  unfold View.readCov at h
  rw [View.readAt_full] at h
  exact congrFun h (B.idx x)

/-- One tile of codes. -/
theorem tile {arg10 : Memref sig .tc .vmem S512x7168 .f32} {harg10 : arg10.IsWhole} {arg11 : Memref sig .tc .vmem S512x128 .f32} {harg11 : arg11.IsWhole}
    (x10 : Vec Ideal S512x7168 .f32) (x11 : Vec Ideal S512x128 .f32) {r q : ℕ}
    (inb10 : ∀ a, (![r, q] : Fin 2 → ℕ) a + S32x128.size a ≤ S512x7168.size a)
    (inb11 : ∀ a, (![r, 0] : Fin 2 → ℕ) a + S32x128.size a ≤ S512x128.size a)
    (inb : ∀ a, (![0, 0] : Fin 2 → ℕ) a + S512x128.size a ≤ S512x128.size a) (x : S32x128.Idx) :
    k0_pay9 (View.readAt (Elt Ideal) arg10.view (Rect.unit (s := S512x7168) ![r, q] S32x128.size inb10).toLoadRect (harg10.unread x10))
      (arg11.view.readCov [⟨Rect.unit ![0, 0] S512x128.size inb,
          k0_pay3 (View.readAt (Elt Ideal) arg11.view (Rect.unit ![0, 0] S512x128.size inb).toLoadRect (harg11.unread x11))⟩]
        (Rect.unit (s := S512x128) ![r, 0] S32x128.size inb11).toLoadRect) x
      = codes x10 x11 ((Rect.unit (s := S512x7168) ![r, q] S32x128.size inb10).emb x) := by
  have h1 : ∀ a b : Vec Ideal S32x128 .f32, k0_pay9 a b x = code (a x) (b x) := fun _ _ => rfl
  rw [h1, readCov_whole, View.readAt_full, harg11.read_unread, pay3_row']
  unfold codes
  have h2 : View.readAt (Elt Ideal) arg10.view (Rect.unit (s := S512x7168) ![r, q] S32x128.size inb10).toLoadRect (harg10.unread x10) x
      = x10 ((Rect.unit (s := S512x7168) ![r, q] S32x128.size inb10).emb x) := by
    have := harg10.read_unread (Val := Elt Ideal) x10
    exact congrFun this _
  rw [h2]
  rfl

set_option maxHeartbeats 4000000 in
/-- Every tile that the second part stores holds its codes. -/
theorem codes_pieces (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc1 : k0_cond2 i = 1#1) (x10 : Vec Ideal S512x7168 .f32) (x11 : Vec Ideal S512x128 .f32) :
    View.PiecesOf (codes x10 x11) (encodeRun (F := Ideal) c i arg2 harg2 arg3 harg3 arg4 harg4 arg5 harg5 arg6 harg6 arg7 harg7 arg8 harg8 arg9 harg9 arg10 harg10 arg11 harg11 arg12 harg12 hc1 x10 x11).1 := by
  unfold encodeRun
  dsimp only
  iterate 896 refine ⟨fun x => tile x10 x11 _ _ _ x, ?_⟩
  exact trivial

/-- The pieces cover the block. -/
theorem codes_cover (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc1 : k0_cond2 i = 1#1) (x10 : Vec Ideal S512x7168 .f32) (x11 : Vec Ideal S512x128 .f32) (y : S512x7168.Idx) :
    ∃ p ∈ (encodeRun (F := Ideal) c i arg2 harg2 arg3 harg3 arg4 harg4 arg5 harg5 arg6 harg6 arg7 harg7 arg8 harg8 arg9 harg9 arg10 harg10 arg11 harg11 arg12 harg12 hc1 x10 x11).1, y ∈ p.1.set :=
  View.cover_of_tiledL (encodeRun (F := Ideal) c i arg2 harg2 arg3 harg3 arg4 harg4 arg5 harg5 arg6 harg6 arg7 harg7 arg8 harg8 arg9 harg9 arg10 harg10 arg11 harg11 arg12 harg12 hc1 x10 x11).1 S32x128.size (by sl_kernel_rfl) y

/-- The scales' array is one whole store. -/
theorem scale_run (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole)
    (hc1 : k0_cond2 i = 1#1) (x10 : Vec Ideal S512x7168 .f32) (x11 : Vec Ideal S512x128 .f32) (f) :
    arg9.view.read (Elt Ideal) (arg9.view.writes (Elt Ideal) f (encodeRun (F := Ideal) c i arg2 harg2 arg3 harg3 arg4 harg4 arg5 harg5 arg6 harg6 arg7 harg7 arg8 harg8 arg9 harg9 arg10 harg10 arg11 harg11 arg12 harg12 hc1 x10 x11).2.1)
      = k0_pay8 (k0_pay4 (k0_pay3 x11)) (k0_pay5 (k0_pay3 x11)) (k0_pay6 (k0_pay3 x11)) (k0_pay7 (k0_pay3 x11)) := by
  unfold encodeRun
  dsimp only
  sl_unfold_run_names
  rw [View.readAt_full, harg11.read_unread, View.readCov_full]
  have h := View.readAt_writes_full arg9.view f inb_S1x1x512_S1x1x512_0_0_0 inb_S1x1x512_S1x1x512_0_0_0
    (k0_pay8 (k0_pay4 (k0_pay3 x11)) (k0_pay5 (k0_pay3 x11)) (k0_pay6 (k0_pay3 x11)) (k0_pay7 (k0_pay3 x11))) []
  rw [View.readAt_full] at h
  exact h

end Cert.UpIdeal.Hand

end
-- ==== Proof.UpIdealInv.lean ====
/-
  What the scratch holds after each grid point, in formulas of the arguments.
-/
module

public import proofs.«01_k».proof.Proof.UpIdealKit
public import proofs.«01_k».proof.Proof.UpIdealProdVal
public import proofs.«01_k».proof.Proof.UpIdealEncVal
public import proofs.«01_k».proof.Proof.Gen.UpIdeal.Frame

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.UpSpec

variable (m : (ℓ : Loc nD τ sig) → Buf (Elt Ideal) ℓ)

/-- The windows' blocks at each grid point. -/
theorem idx_val : ∀ t : Fin cfg0.N, win0_0.index t = ![t.val / 14, 0] ∧ win0_1.index t = ![t.val / 14, 0, 0]
    ∧ win0_2.index t = ![0, t.val % 14] ∧ win0_3.index t = ![0, t.val % 14] ∧ win0_4.index t = ![0, t.val % 14]
    ∧ win0_5.index t = ![0, t.val % 14] ∧ win0_6.index t = ![t.val / 14, 0] ∧ win0_7.index t = ![t.val / 14, 0, 0] ∧ t.val / 14 < 3
    ∧ (grid0.coords t 1).val = t.val % 14 :=
  (by decide +kernel : ∀ t : Fin grid0.N, _)

/-- The hidden value at row `q`, column `n` of the whole arrays. -/
abbrev H (c : Dev nD) (q : Fin 1536) (n : Fin 7168) : EReal :=
  hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q n

/-- The scale of a token's row. -/
abbrev YS (c : Dev nD) (q : Fin 1536) : EReal := (m ((c : Thread nD τ).loc main_arg1) : Vec Ideal S1536 .f32) (ix1 q)

/-- The row of scales, laid out as a column in every lane. -/
theorem pay1082_at (x : Vec Ideal S1x1x512 .f32) (r : Fin 512) (l : Fin 128) : k0_pay1082 (F := Ideal) x (ix2 r l) = x (ix3 0 0 r) := by
  pointwise [k0_pay1082]
  blk_point []

/-- The row of scales at a point. -/
theorem scl_at (c : Dev nD) (t : Fin cfg0.N) (r : Fin 512) (l : Fin 128) (q : Fin 1536) (hq : q.val = 512 * (t.val / 14) + r.val) :
    (k0_pay1082 (F := Ideal) (iblk m c 1 t) (ix2 r l) : EReal) = YS m c q := by
  rw [pay1082_at]
  blk_point [iblk, V, idx_val t]

/-- One step's hidden values are the whole arrays' hidden values. -/
theorem step_at (c : Dev nD) (t : Fin cfg0.N) (s : Vec Ideal S512x128 .f32) (r n : Fin 512) (q : Fin 1536) (k : Fin 7168)
    (hs : ∀ l : Fin 128, (s (ix2 r l) : EReal) = YS m c q) (hq : q.val = 512 * (t.val / 14) + r.val) (hk : k.val = 512 * (t.val % 14) + n.val) :
    stepHid (iblk m c 0 t) s (iblk m c 2 t) (iblk m c 3 t) (iblk m c 4 t) (iblk m c 5 t) r n = H m c q k := by
  unfold stepHid H UpSpec.hid
  rw [hs]
  have e0 : ∀ j : Fin 8192, (iblk m c 0 t : Vec Ideal S512x8192 .fp8e4m3) (ix2 r j) = (m ((c : Thread nD τ).loc main_arg0) : Vec Ideal S1536x8192 .fp8e4m3) (ix2 q j) := fun j => by
    blk_point [iblk, V, idx_val t]
  have e2 : ∀ j : Fin 8192, (iblk m c 2 t : Vec Ideal S8192x512 .fp8e4m3) (ix2 j n) = (m ((c : Thread nD τ).loc main_arg2) : Vec Ideal S8192x7168 .fp8e4m3) (ix2 j k) := fun j => by
    blk_point [iblk, V, idx_val t]
  have e3 : ∀ j : Fin 8192, (iblk m c 3 t : Vec Ideal S8192x512 .fp8e4m3) (ix2 j n) = (m ((c : Thread nD τ).loc main_arg3) : Vec Ideal S8192x7168 .fp8e4m3) (ix2 j k) := fun j => by
    blk_point [iblk, V, idx_val t]
  have e4 : (iblk m c 4 t : Vec Ideal S1x512 .f32) (ix2 0 n) = (m ((c : Thread nD τ).loc main_arg4) : Vec Ideal S7168 .f32) (ix1 k) := by
    blk_point [iblk, V, idx_val t]
  have e5 : (iblk m c 5 t : Vec Ideal S1x512 .f32) (ix2 0 n) = (m ((c : Thread nD τ).loc main_arg5) : Vec Ideal S7168 .f32) (ix1 k) := by
    blk_point [iblk, V, idx_val t]
  rw [e4, e5]
  simp only [e0, e2, e3]

/-- What the scratch holds after point `n`: the hidden values of the columns so far, the largest magnitude among them lane by
    lane, and the rows' scales. -/
structure Inv (c : Dev nD) (n : ℕ) (d10 : Vec Ideal S512x7168 .f32) (d11 d12 : Vec Ideal S512x128 .f32) : Prop where
  hid : ∀ (r : Fin 512) (k : Fin 7168) (q : Fin 1536), q.val = 512 * (n / 14) + r.val → k.val < 512 * (n % 14 + 1) → (d10 (ix2 r k) : EReal) = H m c q k
  big : ∀ (r : Fin 512) (l : Fin 128) (q : Fin 1536) (z : EReal), q.val = 512 * (n / 14) + r.val →
    ((d11 (ix2 r l) : EReal) ≤ z ↔ 0 ≤ z ∧ ∀ k : Fin 7168, k.val < 512 * (n % 14 + 1) → k.val % 128 = l.val → mag (H m c q k) ≤ z)
  scl : ∀ (r : Fin 512) (l : Fin 128) (q : Fin 1536), q.val = 512 * (n / 14) + r.val → (d12 (ix2 r l) : EReal) = YS m c q

/-- One step's maximum, among the hidden values of the step's columns. -/
theorem stepMax_le (c : Dev nD) (t : Fin cfg0.N) (s : Vec Ideal S512x128 .f32) (a z : EReal) (r : Fin 512) (l : Fin 128) (q : Fin 1536)
    (hs : ∀ l : Fin 128, (s (ix2 r l) : EReal) = YS m c q) (hq : q.val = 512 * (t.val / 14) + r.val) :
    stepMax (iblk m c 0 t) s (iblk m c 2 t) (iblk m c 3 t) (iblk m c 4 t) (iblk m c 5 t) a r l ≤ z
      ↔ a ≤ z ∧ ∀ k : Fin 7168, 512 * (t.val % 14) ≤ k.val → k.val < 512 * (t.val % 14 + 1) → k.val % 128 = l.val → mag (H m c q k) ≤ z := by
  have ht : t.val % 14 < 14 := Nat.mod_lt _ (by decide)
  have hl := l.isLt
  have e : ∀ (o : ℕ) (ho : o + l.val < 512), stepHid (iblk m c 0 t) s (iblk m c 2 t) (iblk m c 3 t) (iblk m c 4 t) (iblk m c 5 t) r ⟨o + l.val, ho⟩
      = H m c q ⟨512 * (t.val % 14) + (o + l.val), by omega⟩ := fun o ho => step_at m c t s r _ q _ hs hq rfl
  unfold stepMax
  rw [e 0 (by omega), e 128 (by omega), e 256 (by omega), e 384 (by omega)]
  simp only [max_le_iff, and_assoc]
  refine and_congr_right fun _ => ⟨?_, fun h => ⟨h _ ?_ ?_ ?_, h _ ?_ ?_ ?_, h _ ?_ ?_ ?_, h _ ?_ ?_ ?_⟩⟩
  · rintro ⟨h0, h1, h2, h3⟩ k hk1 hk2 hk3
    have hc : k.val = 512 * (t.val % 14) + (0 + l.val) ∨ k.val = 512 * (t.val % 14) + (128 + l.val) ∨ k.val = 512 * (t.val % 14) + (256 + l.val)
        ∨ k.val = 512 * (t.val % 14) + (384 + l.val) := by omega
    rcases hc with hc | hc | hc | hc
    · rwa [show k = ⟨_, hc ▸ k.isLt⟩ from Fin.ext hc]
    · rwa [show k = ⟨_, hc ▸ k.isLt⟩ from Fin.ext hc]
    · rwa [show k = ⟨_, hc ▸ k.isLt⟩ from Fin.ext hc]
    · rwa [show k = ⟨_, hc ▸ k.isLt⟩ from Fin.ext hc]
  all_goals first
    | (show 512 * (t.val % 14) ≤ _; dsimp only; omega)
    | (dsimp only; omega)

/-- The scratch after a row block's first step. -/
theorem inv_first (c : Dev nD) (t : Fin cfg0.N) (h0 : t.val % 14 = 0) (d10 x10 : Vec Ideal S512x7168 .f32) (d11 d12 : Vec Ideal S512x128 .f32)
    (h10 : ∀ (r : Fin 512) (col : Fin 7168), (d10 (ix2 r col) : EReal) = if h : 512 * (grid0.coords t 1).val ≤ col.val ∧ col.val < 512 * (grid0.coords t 1).val + 512
      then stepHid (iblk m c 0 t) (k0_pay1082 (F := Ideal) (iblk m c 1 t)) (iblk m c 2 t) (iblk m c 3 t) (iblk m c 4 t) (iblk m c 5 t) r ⟨col.val - 512 * (grid0.coords t 1).val, by omega⟩ else x10 (ix2 r col))
    (h11 : ∀ (r : Fin 512) (l : Fin 128), (d11 (ix2 r l) : EReal) = stepMax (iblk m c 0 t) (k0_pay1082 (F := Ideal) (iblk m c 1 t)) (iblk m c 2 t) (iblk m c 3 t) (iblk m c 4 t) (iblk m c 5 t) ((k0_pay1083 (F := Ideal)) (ix2 r l)) r l)
    (h12 : d12 = k0_pay1082 (F := Ideal) (iblk m c 1 t)) : Inv m c t.val d10 d11 d12 where
  hid r k q hq hk := by
    have e1 : (grid0.coords t 1).val = t.val % 14 := (idx_val t).2.2.2.2.2.2.2.2.2
    rw [h10 r k, dif_pos ⟨by omega, by omega⟩]
    exact step_at m c t _ r _ q k (fun l => scl_at m c t r l q hq) hq (by dsimp only; omega)
  big r l q z hq := by
    rw [h11 r l, stepMax_le m c t _ _ z r l q (fun l => scl_at m c t r l q hq) hq]
    have ez : ((k0_pay1083 (F := Ideal)) (ix2 r l) : EReal) = 0 := by pointwise [k0_pay1083]
    rw [ez]
    refine and_congr_right fun _ => ⟨fun h k hk1 hk2 => h k (by omega) hk1 hk2, fun h k _ hk1 hk2 => h k hk1 hk2⟩
  scl r l q hq := by rw [h12]; exact scl_at m c t r l q hq

/-- The scratch after a later step, from the scratch before it. -/
theorem inv_later (c : Dev nD) (t : Fin cfg0.N) (n : ℕ) (hn : t.val = n + 1) (h0 : ¬ t.val % 14 = 0) (d10 x10 : Vec Ideal S512x7168 .f32) (d11 x11 x12 : Vec Ideal S512x128 .f32)
    (hi : Inv m c n x10 x11 x12)
    (h10 : ∀ (r : Fin 512) (col : Fin 7168), (d10 (ix2 r col) : EReal) = if h : 512 * (grid0.coords t 1).val ≤ col.val ∧ col.val < 512 * (grid0.coords t 1).val + 512
      then stepHid (iblk m c 0 t) x12 (iblk m c 2 t) (iblk m c 3 t) (iblk m c 4 t) (iblk m c 5 t) r ⟨col.val - 512 * (grid0.coords t 1).val, by omega⟩ else x10 (ix2 r col))
    (h11 : ∀ (r : Fin 512) (l : Fin 128), (d11 (ix2 r l) : EReal) = stepMax (iblk m c 0 t) x12 (iblk m c 2 t) (iblk m c 3 t) (iblk m c 4 t) (iblk m c 5 t) (x11 (ix2 r l)) r l) :
    Inv m c t.val d10 d11 x12 where
  hid r k q hq hk := by
    have e1 : (grid0.coords t 1).val = t.val % 14 := (idx_val t).2.2.2.2.2.2.2.2.2
    rw [h10 r k]
    split
    · exact step_at m c t _ r _ q k (fun l => hi.scl r l q (by omega)) hq (by dsimp only; omega)
    · exact hi.hid r k q (by omega) (by omega)
  big r l q z hq := by
    rw [h11 r l, stepMax_le m c t _ _ z r l q (fun l => hi.scl r l q (by omega)) hq, hi.big r l q z (by omega), and_assoc]
    refine and_congr_right fun _ => ⟨fun h k hk1 hk2 => ?_, fun h => ⟨fun k hk1 hk2 => h k (by omega) hk2, fun k _ hk1 hk2 => h k hk1 hk2⟩⟩
    by_cases hk : 512 * (t.val % 14) ≤ k.val
    · exact h.2 k hk hk1 hk2
    · exact h.1 k (by omega) hk2
  scl r l q hq := hi.scl r l q (by omega)

/-- A magnitude is not negative. -/
theorem mag_nonneg (h : EReal) : 0 ≤ mag h := by
  show 0 ≤ max h (-h)
  rcases le_total 0 h with h0 | h0
  · exact le_max_of_le_left h0
  · exact le_max_of_le_right (EReal.neg_nonneg.mpr h0)

/-- The largest of `n` magnitudes lies below `z` when each one does. -/
theorem largest_le {n : ℕ} (h : Fin n → EReal) (z : EReal) : largest h ≤ z ↔ ∀ k, mag (h k) ≤ z := by
  unfold largest
  rw [Finset.fold_max_le]
  have hb : Ideal.ofBits FTy.f32 4286578688#32 = (⊥ : EReal) := by simp [Ideal.ofBits, Ideal.ieee]
  rw [hb]
  exact ⟨fun h k => h.2 k (Finset.mem_univ k), fun h => ⟨bot_le, fun k _ => h k⟩⟩

/-- On a row block's last step the scale is that of the whole row. -/
theorem pay3_at (c : Dev nD) (n : ℕ) (hn : n % 14 = 13) (d10 : Vec Ideal S512x7168 .f32) (d11 d12 : Vec Ideal S512x128 .f32) (hi : Inv m c n d10 d11 d12)
    (r : Fin 512) (l : Fin 128) (q : Fin 1536) (hq : q.val = 512 * (n / 14) + r.val) :
    (k0_pay3 (F := Ideal) d11 (ix2 r l) : EReal) = scaleOf (largest fun k => H m c q k) := by
  have hf : Finset.fold max (Ideal.ofBits FTy.f32 4286578688#32) (fun x => (d11 (ix2 r x) : EReal)) (Finset.univ : Finset (Fin 128)) = largest fun k => H m c q k := by
    refine eq_of_forall_ge_iff fun z => ?_
    rw [largest_le, Finset.fold_max_le]
    have hb : Ideal.ofBits FTy.f32 4286578688#32 = (⊥ : EReal) := by simp [Ideal.ofBits, Ideal.ieee]
    rw [hb]
    constructor
    · rintro ⟨-, h⟩ k
      exact ((hi.big r ⟨k.val % 128, Nat.mod_lt _ (by decide)⟩ q z hq).mp (h _ (Finset.mem_univ _))).2 k (by have := k.isLt; omega) rfl
    · intro h
      exact ⟨bot_le, fun x _ => (hi.big r x q z hq).mpr ⟨(mag_nonneg _).trans (h ⟨0, by decide⟩), fun k _ _ => h k⟩⟩
  pointwise [k0_pay3]
  rw [hf]
  rfl

/-- The codes of the last step. -/
theorem codes_at (c : Dev nD) (n : ℕ) (hn : n % 14 = 13) (d10 : Vec Ideal S512x7168 .f32) (d11 d12 : Vec Ideal S512x128 .f32) (hi : Inv m c n d10 d11 d12)
    (r : Fin 512) (k : Fin 7168) (q : Fin 1536) (hq : q.val = 512 * (n / 14) + r.val) :
    (codes d10 d11 (ix2 r k) : EReal) = codeOf (H m c q k) (scaleOf (largest fun k => H m c q k)) := by
  have e : (codes d10 d11 (ix2 r k) : EReal) = code (d10 (ix2 r k)) (k0_pay3 d11 (ix2 r 0)) := rfl
  rw [e, show (d10 (ix2 r k)) = H m c q k from hi.hid r k q hq (by have := k.isLt; omega), show (k0_pay3 (F := Ideal) d11 (ix2 r 0)) = _ from pay3_at m c n hn d10 d11 d12 hi r 0 q hq]
  unfold code
  pointwise [k0_pay9, codeOf]

/-- A sum that keeps the one term at `n`. -/
theorem pick (n : ℕ) (hn : n < 128) (f : Fin 128 → Ideal .f32) :
    (∑ x : Fin 128, (Scalar.select (IntOp.cmpi CmpIPredicate.eq (BitVec.ofNat 32 x.val) (BitVec.ofNat 32 n)) (f x) 0 : EReal)) = f ⟨n, hn⟩ := by
  rw [Finset.sum_eq_single ⟨n, hn⟩]
  · simp [Scalar.select, IntOp.cmpi]
  · intro b _ hb
    have hne : ¬ BitVec.ofNat 32 b.val = BitVec.ofNat 32 n := by
      intro h
      have h' := congrArg BitVec.toNat h
      simp only [BitVec.toNat_ofNat] at h'
      have := b.isLt
      exact hb (Fin.ext (by dsimp only; omega))
    have hb' : (BitVec.ofNat 32 b.val == BitVec.ofNat 32 n) = false := beq_eq_false_iff_ne.mpr hne
    simp only [Scalar.select, IntOp.cmpi, hb']
    rfl
  · intro h; exact absurd (Finset.mem_univ _) h

/-- A row-constant array's diagonal, read as a row. -/
theorem diag_at (s : Vec Ideal S512x128 .f32) (hs : ∀ (r : Fin 512) (l : Fin 128), s (ix2 r l) = s (ix2 r 0)) (r : Fin 512) :
    (k0_pay8 (F := Ideal) (k0_pay4 s) (k0_pay5 s) (k0_pay6 s) (k0_pay7 s) (ix3 0 0 r) : EReal) = s (ix2 r 0) := by
  obtain ⟨g, rfl⟩ : ∃ g : Fin 512 → EReal, s = fun j => g (j 0) := ⟨fun r => s (ix2 r 0), by
    funext j
    obtain ⟨a, b, rfl⟩ : ∃ a b, j = ix2 a b := ⟨j 0, j 1, by funext k; fin_cases k <;> rfl⟩
    exact hs a b⟩
  pointwise [k0_pay8, k0_pay4, k0_pay5, k0_pay6, k0_pay7]
  have hr := r.isLt
  split
  · exact (pick _ (by omega) _).trans (congrArg g (Fin.ext (by dsimp only)))
  split
  · exact (pick _ (by omega) _).trans (congrArg g (Fin.ext (by dsimp only; omega)))
  split
  · exact (pick _ (by omega) _).trans (congrArg g (Fin.ext (by dsimp only; omega)))
  · exact (pick _ (by omega) _).trans (congrArg g (Fin.ext (by dsimp only; omega)))

/-- The scales of the last step. -/
theorem scales_at (c : Dev nD) (n : ℕ) (hn : n % 14 = 13) (d10 : Vec Ideal S512x7168 .f32) (d11 d12 : Vec Ideal S512x128 .f32) (hi : Inv m c n d10 d11 d12)
    (r : Fin 512) (q : Fin 1536) (hq : q.val = 512 * (n / 14) + r.val) :
    (k0_pay8 (F := Ideal) (k0_pay4 (k0_pay3 d11)) (k0_pay5 (k0_pay3 d11)) (k0_pay6 (k0_pay3 d11)) (k0_pay7 (k0_pay3 d11)) (ix3 0 0 r) : EReal) = scaleOf (largest fun k => H m c q k) :=
  (diag_at _ (fun r l => pay3_row d11 r l) r).trans (pay3_at m c n hn d10 d11 d12 hi r 0 q hq)

end Cert.UpIdeal.Hand

end
-- ==== Proof.UpIdealRun.lean ====
/-
  The run of the call that makes the hidden codes, and what it leaves: the codes and the scales.
-/
module

public import proofs.«01_k».proof.Proof.UpIdealInv
public import Idealize.ShloMosaic.Lib.Claim

@[expose] public section

set_option maxRecDepth 16384

noncomputable section

namespace Cert.UpIdeal.Hand

open Cert.UpIdeal Cert.UpIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

open Cert.UpSpec

variable (m : (ℓ : Loc nD τ sig) → Buf (Elt Ideal) ℓ) (ρ : Dev nD → PrngReg)

/-- Row `r` of the point's row block. -/
def row (t : Fin cfg0.N) (r : Fin 512) : Fin 1536 := ⟨512 * (t.val / 14) + r.val, by have := (idx_val t).2.2.2.2.2.2.2.2.1; have := r.isLt; omega⟩

/-- The codes of the point's row block. -/
def outCodes (c : Dev nD) (t : Fin cfg0.N) : Vec Ideal S512x7168 .fp8e4m3 := fun y =>
  codeOf (H m c (row t (y 0)) (y 1)) (scaleOf (largest fun k => H m c (row t (y 0)) k))

/-- The scales of the point's row block. -/
def outScales (c : Dev nD) (t : Fin cfg0.N) : Vec Ideal S1x1x512 .f32 := fun y => scaleOf (largest fun k => H m c (row t (y 2)) k)

/-- Between points: before the first the scratch holds anything, after point `n` what `Inv` says. -/
def PhiS (c : Dev nD) : (n : ℕ) → n ≤ cfg0.N → sProp 𝕄
  | 0, _ => Pipeline.ΦA spec0 c
  | n + 1, _ => iprop((∃ (d10 : Vec Ideal S512x7168 .f32) (d11 d12 : Vec Ideal S512x128 .f32), ⌜¬ n % 14 = 13 → Inv m c n d10 d11 d12⌝ ∗ owns (c : Thread nD τ) scM0_0 fullShare d10 ∗ owns (c : Thread nD τ) scM0_1 fullShare d11 ∗ owns (c : Thread nD τ) scM0_2 fullShare d12) ∗ (∃ r, prngReg c r))

theorem PhiS_succ (c : Dev nD) (n : ℕ) (hn : n + 1 ≤ cfg0.N) :
    PhiS m c (n + 1) hn = iprop((∃ (d10 : Vec Ideal S512x7168 .f32) (d11 d12 : Vec Ideal S512x128 .f32), ⌜¬ n % 14 = 13 → Inv m c n d10 d11 d12⌝ ∗ owns (c : Thread nD τ) scM0_0 fullShare d10 ∗ owns (c : Thread nD τ) scM0_1 fullShare d11 ∗ owns (c : Thread nD τ) scM0_2 fullShare d12) ∗ (∃ r, prngReg c r)) := rfl

theorem PhiS_pos (c : Dev nD) (n : ℕ) (h : n ≤ cfg0.N) (hz : n ≠ 0) :
    PhiS m c n h = iprop((∃ (d10 : Vec Ideal S512x7168 .f32) (d11 d12 : Vec Ideal S512x128 .f32), ⌜¬ (n - 1) % 14 = 13 → Inv m c (n - 1) d10 d11 d12⌝ ∗ owns (c : Thread nD τ) scM0_0 fullShare d10 ∗ owns (c : Thread nD τ) scM0_1 fullShare d11 ∗ owns (c : Thread nD τ) scM0_2 fullShare d12) ∗ (∃ r, prngReg c r)) := by
  cases n with
  | zero => exact absurd rfl hz
  | succ n => rfl

/-- What the scratch holds can be forgotten. -/
theorem PhiS_any (c : Dev nD) (n : ℕ) (h : n ≤ cfg0.N) : PhiS m c n h ⊢ Pipeline.ΦA spec0 c := by
  cases n with
  | zero => exact Idealize.SL.BI.Entails.refl _
  | succ n =>
    rw [PhiS_succ, PhiA0_eq]
    iintro ⟨⟨%d10, %d11, %d12, -, HS0, HS1, HS2⟩, Hg⟩
    isplitl [HS0 HS1 HS2]
    · isplitl [HS0]
      · iexists _; iexact HS0
      isplitl [HS1]
      · iexists _; iexact HS1
      iexists _; iexact HS2
    iexact Hg

/-! ## The pipeline's proof data -/

/-- The arrays as the region finds them; after each point every input's buffer at its block, the outputs at the row block's codes
    and scales. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outCodes m c t
    | ⟨7, _⟩ => outScales m c t
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = outCodes m c t := by dsimp only [dats]
theorem after0_7 (c : Dev nD) (t : Fin cfg0.N) : (dats m 0 c).after 7 t = outScales m c t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The codes' buffer after the second part. -/
theorem codes_read (c : Dev nD) (i : grid0.Coords) (arg2 : Memref sig .tc .vmem S512x8192 .fp8e4m3) (harg2 : arg2.IsWhole) (arg3 : Memref sig .tc .vmem S1x1x512 .f32) (harg3 : arg3.IsWhole) (arg4 : Memref sig .tc .vmem S8192x512 .fp8e4m3) (harg4 : arg4.IsWhole) (arg5 : Memref sig .tc .vmem S8192x512 .fp8e4m3) (harg5 : arg5.IsWhole) (arg6 : Memref sig .tc .vmem S1x512 .f32) (harg6 : arg6.IsWhole) (arg7 : Memref sig .tc .vmem S1x512 .f32) (harg7 : arg7.IsWhole) (arg8 : Memref sig .tc .vmem S512x7168 .fp8e4m3) (harg8 : arg8.IsWhole) (arg9 : Memref sig .tc .vmem S1x1x512 .f32) (harg9 : arg9.IsWhole) (arg10 : Memref sig .tc .vmem S512x7168 .f32) (harg10 : arg10.IsWhole) (arg11 : Memref sig .tc .vmem S512x128 .f32) (harg11 : arg11.IsWhole) (arg12 : Memref sig .tc .vmem S512x128 .f32) (harg12 : arg12.IsWhole) (hc1 : k0_cond2 i = 1#1) (x10 : Vec Ideal S512x7168 .f32) (x11 : Vec Ideal S512x128 .f32) (f) :
    arg8.view.read (Elt Ideal) (arg8.view.writes (Elt Ideal) f (encodeRun (F := Ideal) c i arg2 harg2 arg3 harg3 arg4 harg4 arg5 harg5 arg6 harg6 arg7 harg7 arg8 harg8 arg9 harg9 arg10 harg10 arg11 harg11 arg12 harg12 hc1 x10 x11).1) = codes x10 x11 :=
  funext fun y => View.read_writes_apply_of_pieces _ f (codes x10 x11) _ (codes_pieces c i arg2 harg2 arg3 harg3 arg4 harg4 arg5 harg5 arg6 harg6 arg7 harg7 arg8 harg8 arg9 harg9 arg10 harg10 arg11 harg11 arg12 harg12 hc1 x10 x11).mem y (codes_cover c i arg2 harg2 arg3 harg3 arg4 harg4 arg5 harg5 arg6 harg6 arg7 harg7 arg8 harg8 arg9 harg9 arg10 harg10 arg11 harg11 arg12 harg12 hc1 x10 x11 y)

/-- On a row block's last step the codes are those of the row block. -/
theorem codes_out (c : Dev nD) (t : Fin cfg0.N) (h1 : t.val % 14 = 13) (d10 : Vec Ideal S512x7168 .f32) (d11 d12 : Vec Ideal S512x128 .f32)
    (hi : Inv m c t.val d10 d11 d12) : codes d10 d11 = outCodes m c t := by
  funext y
  obtain ⟨a, b, rfl⟩ : ∃ a b, y = ix2 a b := ⟨y 0, y 1, by funext k; fin_cases k <;> rfl⟩
  exact codes_at m c t.val h1 d10 d11 d12 hi a b (row t a) rfl

theorem scales_out (c : Dev nD) (t : Fin cfg0.N) (h1 : t.val % 14 = 13) (d10 : Vec Ideal S512x7168 .f32) (d11 d12 : Vec Ideal S512x128 .f32)
    (hi : Inv m c t.val d10 d11 d12) :
    k0_pay8 (F := Ideal) (k0_pay4 (k0_pay3 d11)) (k0_pay5 (k0_pay3 d11)) (k0_pay6 (k0_pay3 d11)) (k0_pay7 (k0_pay3 d11)) = outScales m c t := by
  funext y
  obtain ⟨a, b, r, rfl⟩ : ∃ a b r, y = ix3 a b r := ⟨y 0, y 1, y 2, by funext k; fin_cases k <;> rfl⟩
  obtain rfl : a = 0 := Subsingleton.elim _ _
  obtain rfl : b = 0 := Subsingleton.elim _ _
  exact scales_at m c t.val h1 d10 d11 d12 hi r (row t r) rfl

/-- The outputs are written back on a row block's last step only. -/
theorem flush_no : ∀ t : Fin cfg0.N, ¬ t.val % 14 = 13 → (cfg0.win 6).flush t = false ∧ (cfg0.win 7).flush t = false :=
  (by decide +kernel : ∀ t : Fin grid0.N, ¬ t.val % 14 = 13 → (win0_6).flush t = false ∧ (win0_7).flush t = false)

theorem idle_yes (t : Fin cfg0.N) (h : ¬ t.val % 14 = 13) : cfg0.idle 6 (cfg0.grid.coords t) = true ∧ cfg0.idle 7 (cfg0.grid.coords t) = true := by
  have h' : ¬ k0_cond2 (grid0.coords t) = 1#1 := fun e => h ((hcond0_1 t).mp e)
  have e : (k0_cond2 (grid0.coords t) == 1#1) = false := beq_eq_false_iff_ne.mpr h'
  constructor
  · show (!(k0_cond2 (grid0.coords t) == 1#1)) = true
    rw [e]; rfl
  · show (!(k0_cond2 (grid0.coords t) == 1#1)) = true
    rw [e]; rfl

theorem idle_no (t : Fin cfg0.N) (h : t.val % 14 = 13) : cfg0.idle 6 (cfg0.grid.coords t) = false ∧ cfg0.idle 7 (cfg0.grid.coords t) = false := by
  have h' : k0_cond2 (grid0.coords t) = 1#1 := (hcond0_1 t).mpr h
  have e : (k0_cond2 (grid0.coords t) == 1#1) = true := beq_iff_eq.mpr h'
  constructor
  · show (!(k0_cond2 (grid0.coords t) == 1#1)) = false
    rw [e]; rfl
  · show (!(k0_cond2 (grid0.coords t) == 1#1)) = false
    rw [e]; rfl

set_option maxHeartbeats 9600000 in
/-- The body at any point, case by case: a row block's first step, a middle one, its last. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_castSucc, PhiS_succ]
  rw [body_eq]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 14 = 0
  · have h1 : ¬ t.val % 14 = 13 := by omega
    rw [(dats m 0 c).leavesExact_idle 6 t (idle_yes t h1).1 (flush_no t h1).1]
    rw [(dats m 0 c).leavesExact_idle 7 t (idle_yes t h1).2 (flush_no t h1).2]
    refine (sep_mono_left (PhiS_any m c t.val _)).trans ?_
    rw [PhiA0_eq]
    iintro ⟨⟨⟨⟨%x10, HS0⟩, ⟨%x11, HS1⟩, ⟨%x12, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((productsFirst (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) x10).2.2.2 Set.univ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexists _; iexact HS1
    isplitl [HS2]; · iexists _; iexact HS2
    iintro %a %b ⟨H0, H1, H2, H3, H4, H5, HS0, ⟨%f1, HS1⟩, ⟨%f2, HS2⟩⟩
    iapply (encode_skip c (grid0.coords t) _ _ _ _ _ _ _ _ _ _ _ _ _ _ _ _ _ _ _ _ _ _ (fun h => h1 ((hcond0_1 t).mp h)) Set.univ _)
    have hI := inv_first m c t h0 _ _ _ _ (fun r col => hid_First c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) x10 r col)
      (fun r l => max_First c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) x10 f1 r l) (scl_First c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_0 t).mpr h0) (iblk m c 0 t) (iblk m c 1 t) (iblk m c 2 t) (iblk m c 3 t) (iblk m c 4 t) (iblk m c 5 t) x10 f2)
    isplitl [HS0 HS1 HS2 Hg]
    · isplitl [HS0 HS1 HS2]
      · iexists _, _, _
        isplitr
        · ipureintro; exact fun _ => hI
        isplitl [HS0]
        · unfold owns; iexists _; isplitr
          swap; · iexact HS0
          ipureintro; rfl
        isplitl [HS1]
        · unfold owns; iexists _; isplitr
          swap; · iexact HS1
          ipureintro; rfl
        unfold owns; iexists _; isplitr
        swap; · iexact HS2
        ipureintro; rfl
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; iexact H6
    iexists _; iexact H7
  rw [PhiS_pos m c t.val _ (fun h => h0 (by rw [h]))]
  have hn : t.val = (t.val - 1) + 1 := by omega
  by_cases h1 : t.val % 14 = 13
  · skip
    rw [show (dats m 0 c).leavesExact 6 t = owns (c : Thread nD τ) (ms0_6 t) fullShare ((dats m 0 c).after 6 t) from by
      unfold Dat.leavesExact; rw [(idle_no t h1).1], after0_6]
    rw [show (dats m 0 c).leavesExact 7 t = owns (c : Thread nD τ) (ms0_7 t) fullShare ((dats m 0 c).after 7 t) from by
      unfold Dat.leavesExact; rw [(idle_no t h1).2], after0_7]
    iintro ⟨⟨⟨%x10, %x11, %x12, %hinv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI := inv_later m c t (t.val - 1) hn h0 _ x10 _ x11 x12 (hinv (by omega)) (fun r col => hid_Later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12 r col)
      (fun r l => max_Later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12 r l)
    iapply ((productsLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12).2.2 Set.univ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro %a %b ⟨H0, H1, H2, H3, H4, H5, HS0, HS1, HS2⟩
    iapply ((encodeRun (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) ((hcond0_1 t).mpr h1) (scM0_0.view.read (Elt Ideal) (productsLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12).1)
      (scM0_1.view.read (Elt Ideal) (scM0_1.view.writes (Elt Ideal) ((Memref.isWhole_whole _).unread x11) (productsLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12).2.1))).2.2 Set.univ _)
    isplitl [H6]; · iexists _; iexact H6
    isplitl [H7]; · iexists _; iexact H7
    isplitl [HS0]
    · unfold owns; iexists _; isplitr
      swap; · iexact HS0
      ipureintro; rfl
    isplitl [HS1]
    · unfold owns; iexists _; isplitr
      swap; · iexact HS1
      ipureintro; rfl
    iintro ⟨⟨%f6, H6⟩, ⟨%f7, H7⟩, HS0, ⟨%e11, HS1⟩⟩
    isplitl [HS0 HS1 HS2 Hg]
    · isplitl [HS0 HS1 HS2]
      · iexists (scM0_0.view.read (Elt Ideal) (productsLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12).1), e11, x12
        isplitr
        · ipureintro; exact fun h => absurd h1 h
        isplitl [HS0]
        · iexact HS0
        isplitl [HS1]
        · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · unfold owns; iexists _; isplitr
      swap; · iexact H6
      ipureintro; rw [codes_read]; exact codes_out m c t h1 _ _ _ hI
    unfold owns; iexists _; isplitr
    swap; · iexact H7
    ipureintro; rw [scale_run]; exact scales_out m c t h1 _ _ _ hI
  · skip
    rw [(dats m 0 c).leavesExact_idle 6 t (idle_yes t h1).1 (flush_no t h1).1]
    rw [(dats m 0 c).leavesExact_idle 7 t (idle_yes t h1).2 (flush_no t h1).2]
    iintro ⟨⟨⟨%x10, %x11, %x12, %hinv, HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    have hI := inv_later m c t (t.val - 1) hn h0 _ x10 _ x11 x12 (hinv (by omega)) (fun r col => hid_Later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12 r col)
      (fun r l => max_Later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12 r l)
    iapply ((productsLater (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) (fun h => h0 ((hcond0_0 t).mp h)) (iblk m c 0 t) (iblk m c 1 t) (iblk m c 2 t) (iblk m c 3 t) (iblk m c 4 t) (iblk m c 5 t) x10 x11 x12).2.2 Set.univ _ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    iintro %a %b ⟨H0, H1, H2, H3, H4, H5, HS0, HS1, HS2⟩
    iapply (encode_skip c (grid0.coords t) _ _ _ _ _ _ _ _ _ _ _ _ _ _ _ _ _ _ _ _ _ _ (fun h => h1 ((hcond0_1 t).mp h)) Set.univ _)
    isplitl [HS0 HS1 HS2 Hg]
    · isplitl [HS0 HS1 HS2]
      · iexists _, _, _
        isplitr
        · ipureintro; exact fun _ => hI
        isplitl [HS0]
        · unfold owns; iexists _; isplitr
          swap; · iexact HS0
          ipureintro; rfl
        isplitl [HS1]
        · unfold owns; iexists _; isplitr
          swap; · iexact HS1
          ipureintro; rfl
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; iexact H6
    iexists _; iexact H7
/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl]
  exact PhiS_any m c _ _

/-! ## The run and the frame -/

-- `θ_run_frame_track`'s implicit arguments are found by unifying its conclusion with this one, which takes unfolding plain
-- definitions in a metavariable's type
set_option backward.isDefEq.respectTransparency.types false in
/-- The launch: `run_main`'s statement, and every semaphore counter of the machine at zero at every final state. -/
theorem run_main_quiescent : θ_run defs (onTc (τ := τ) (main (F := Ideal))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := Ideal))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every run ends with the arguments unchanged and every counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

/-- The run, with both result arrays named and the arguments unchanged. -/
theorem run_blocks : θ_run defs (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

/-- The result arrays after the run are the plain formulas of the arguments. -/
theorem final6 (c : Dev nD) : (dats m 0 c).arrAt 6 (cfgs 0).N = UpSpec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 6 _ (by decide +kernel) fun t hf y => ?_
  blk_simp
  rw [after0_6]
  idx_vars y
  have e : ∀ A : Vec Ideal S1536x7168 .fp8e4m3, A ((win0_6.blk t).view.emb (ix2 y0 y1)) = A (ix2 (row t y0) y1) := fun A => by
    blk_point [row, idx_val t]
  exact Eq.trans rfl (e (UpSpec.codes (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))).symm

theorem final7 (c : Dev nD) : (dats m 0 c).arrAt 7 (cfgs 0).N = UpSpec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp
  rw [after0_7]
  idx_vars y
  have e : ∀ A : Vec Ideal S3x1x512 .f32, A ((win0_7.blk t).view.emb (ix3 y0 y1 y2)) = A (ix3 ⟨t.val / 14, (idx_val t).2.2.2.2.2.2.2.2.1⟩ 0 y2) := fun A => by
    blk_point [row, idx_val t]
  exact Eq.trans rfl (e (UpSpec.scales (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)))).symm

end Cert.UpIdeal.Hand

end
-- ==== Proof.UpRefVal.lean ====
module

public import proofs.«01_k».proof.Proof.Gen.UpRefIdeal.Frame
public import proofs.«01_k».proof.Proof.UpSpec
public import Idealize.ShloMosaic.Lib.Pipeline.ValueKit
public import Idealize.ShloMosaic.Lib.Pointwise
public import Idealize.ShloMosaic.Lib.Claim

@[expose] public section

set_option maxRecDepth 16384

noncomputable section

namespace Cert.UpRefIdeal.Val

open Cert.UpRefIdeal Cert.UpRefIdeal.Gen Idealize.ShloMosaic Idealize.ShloMosaic.TcCoe Idealize.SL.Sem
open Idealize.ShloMosaic.Pipeline (Dat)

variable (m : (ℓ : Loc nD τ sig) → Buf (Elt Ideal) ℓ)

/-- Every window's one block is at the origin. -/
theorem idx : win0_0.index t0_0 = ![0, 0] ∧ win0_1.index t0_0 = ![0, 0] ∧ win0_2.index t0_0 = ![0, 0] ∧ win0_3.index t0_0 = ![0, 0]
    ∧ win0_4.index t0_0 = ![0, 0] ∧ win0_5.index t0_0 = ![0, 0] ∧ win0_6.index t0_0 = ![0, 0] ∧ win0_7.index t0_0 = ![0, 0, 0] := by decide +kernel

/-- The hidden values. -/
abbrev H (c : Dev nD) (q : Fin 1536) (n : Fin 7168) : EReal :=
  UpSpec.hid (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q n

/-- The body's hidden values from the whole arrays. -/
theorem pay3_at (x0 : Vec Ideal S1536x8192 .fp8e4m3) (x2 x3 : Vec Ideal S8192x7168 .fp8e4m3) (x1 : Vec Ideal S1536x1 .f32) (x4 x5 : Vec Ideal S1x7168 .f32) (q : Fin 1536) (n : Fin 7168) :
    (k0_pay3 (F := Ideal) x0 x2 x1 x4 x0 x3 x1 x5 (ix2 q n) : EReal)
      = UpSpec.hid1 (∑ k : Fin 8192, (x0 (ix2 q k) : EReal) * (x2 (ix2 k n) : EReal)) (∑ k : Fin 8192, (x0 (ix2 q k) : EReal) * (x3 (ix2 k n) : EReal))
          (x1 (ix2 q 0)) (x4 (ix2 0 n)) (x5 (ix2 0 n)) := by
  pointwise [k0_pay3, UpSpec.hid1]

theorem hid_at (c : Dev nD) (q : Fin 1536) (n : Fin 7168) :
    (k0_pay3 (F := Ideal) (iblk m c 0 t0_0) (iblk m c 2 t0_0) (iblk m c 1 t0_0) (iblk m c 4 t0_0) (iblk m c 0 t0_0) (iblk m c 3 t0_0) (iblk m c 1 t0_0) (iblk m c 5 t0_0) (ix2 q n) : EReal) = H m c q n := by
  rw [pay3_at]
  unfold H UpSpec.hid
  have e0 : ∀ j : Fin 8192, (iblk m c 0 t0_0 : Vec Ideal S1536x8192 .fp8e4m3) (ix2 q j) = (m ((c : Thread nD τ).loc main_arg0) : Vec Ideal S1536x8192 .fp8e4m3) (ix2 q j) := fun j => by
    blk_point [iblk, V, idx]
  have e1 : (iblk m c 1 t0_0 : Vec Ideal S1536x1 .f32) (ix2 q 0) = (m ((c : Thread nD τ).loc main_arg1) : Vec Ideal S1536 .f32) (ix1 q) := by
    blk_point [iblk, V, idx]
  have e2 : ∀ j : Fin 8192, (iblk m c 2 t0_0 : Vec Ideal S8192x7168 .fp8e4m3) (ix2 j n) = (m ((c : Thread nD τ).loc main_arg2) : Vec Ideal S8192x7168 .fp8e4m3) (ix2 j n) := fun j => by
    blk_point [iblk, V, idx]
  have e3 : ∀ j : Fin 8192, (iblk m c 3 t0_0 : Vec Ideal S8192x7168 .fp8e4m3) (ix2 j n) = (m ((c : Thread nD τ).loc main_arg3) : Vec Ideal S8192x7168 .fp8e4m3) (ix2 j n) := fun j => by
    blk_point [iblk, V, idx]
  have e4 : (iblk m c 4 t0_0 : Vec Ideal S1x7168 .f32) (ix2 0 n) = (m ((c : Thread nD τ).loc main_arg4) : Vec Ideal S7168 .f32) (ix1 n) := by
    blk_point [iblk, V, idx]
  have e5 : (iblk m c 5 t0_0 : Vec Ideal S1x7168 .f32) (ix2 0 n) = (m ((c : Thread nD τ).loc main_arg5) : Vec Ideal S7168 .f32) (ix1 n) := by
    blk_point [iblk, V, idx]
  rw [e1, e4, e5]
  simp only [e0, e2, e3]

/-- A row's maximum, at any extents. -/
theorem rowmax {m n : ℕ} (v : FVec Ideal ⟨2, ![m, n]⟩ .f32) (acc : BitVec 32) (h : (⟨2, ![m, n]⟩ : Shape).Reduces [1] ⟨1, ![m]⟩) (hφ : FKind.Formats .f32)
    (hacc : acc = FKind.maximumf.neutral .f32 hφ) (q : Fin m) :
    (multiReduction (F := Ideal) .maximumf [1] ⟨1, ![m]⟩ v acc h hφ hacc (ix1 q) : EReal)
      = Finset.univ.fold max (Ideal.ofBits FTy.f32 acc) (fun k : Fin n => (v (ix2 q k) : EReal)) := by
  refine (Ideal.multiReduction_maximumf_single _ _ _ _ _ _).trans ?_
  refine congrArg (fun f => Finset.univ.fold max (Ideal.ofBits FTy.f32 acc) f) (funext fun k => congrArg v ?_)
  funext a
  fin_cases a <;> rfl

/-- A row's scale, of any column of row maxima. -/
def sclOf (v26 : FVec Ideal S1536 .f32) : FVec Ideal S1536x1 .f32 :=
  have v27 : FVec Ideal S1536x1 .f32 := shapeCast S1536x1 v26 shapeCasts_S1536_S1536x1
  select (cmpf .oeq v27 (broadcast S1536x1 (Scalar.ofBits .f32 0x00000000#32))) (broadcast S1536x1 (Scalar.ofBits .f32 0x3F800000#32))
    (divf v27 (broadcast S1536x1 (Scalar.ofBits .f32 0x43E00000#32)))

theorem sclOf_at (v : FVec Ideal S1536 .f32) (q : Fin 1536) : (sclOf v (ix2 q 0) : EReal) = UpSpec.scaleOf (v (ix1 q)) := by
  pointwise [sclOf, UpSpec.scaleOf]

/-- A row's scale, of any array of hidden values. -/
def scl (h : FVec Ideal S1536x7168 .f32) : FVec Ideal S1536x1 .f32 :=
  sclOf (multiReduction .maximumf [1] S1536 (absf h) 0xFF800000#32 reduces_S1536x7168_S1536 (.inl rfl) rfl)

theorem scl_at (h : FVec Ideal S1536x7168 .f32) (q : Fin 1536) :
    (scl h (ix2 q 0) : EReal) = UpSpec.scaleOf (UpSpec.largest fun n => h (ix2 q n)) := by
  unfold scl
  rw [sclOf_at]
  refine congrArg UpSpec.scaleOf ?_
  exact rowmax (absf h) _ _ _ _ q

/-- The body's row scale from its hidden values. -/
theorem pay4_at (x0 : Vec Ideal S1536x8192 .fp8e4m3) (x2 x3 : Vec Ideal S8192x7168 .fp8e4m3) (x1 : Vec Ideal S1536x1 .f32) (x4 x5 : Vec Ideal S1x7168 .f32) (q : Fin 1536) :
    (k0_pay4 (F := Ideal) x0 x2 x1 x4 x0 x3 x1 x5 (ix2 q 0) : EReal)
      = UpSpec.scaleOf (UpSpec.largest fun n => k0_pay3 (F := Ideal) x0 x2 x1 x4 x0 x3 x1 x5 (ix2 q n)) := by
  have e : k0_pay4 (F := Ideal) x0 x2 x1 x4 x0 x3 x1 x5 = scl (k0_pay3 (F := Ideal) x0 x2 x1 x4 x0 x3 x1 x5) := rfl
  rw [e]
  exact scl_at _ q

theorem scale_at (c : Dev nD) (q : Fin 1536) :
    (k0_pay4 (F := Ideal) (iblk m c 0 t0_0) (iblk m c 2 t0_0) (iblk m c 1 t0_0) (iblk m c 4 t0_0) (iblk m c 0 t0_0) (iblk m c 3 t0_0) (iblk m c 1 t0_0) (iblk m c 5 t0_0) (ix2 q 0) : EReal) = UpSpec.scale (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) q := by
  rw [pay4_at]
  unfold UpSpec.scale
  exact congrArg UpSpec.scaleOf (congrArg UpSpec.largest (funext fun n => hid_at m c q n))

/-- The codes, of any hidden values and row scales. -/
def cod (h : FVec Ideal S1536x7168 .f32) (s : FVec Ideal S1536x1 .f32) : FVec Ideal S1536x7168 .fp8e4m3 :=
  k0_pay1 (F := Ideal) (divf h (broadcastTo S1536x7168 s broadcasts_S1536x1_S1536x7168)) (FloatOps.ofBits FTy.f32 3286237184#32) (FloatOps.ofBits FTy.f32 1138753536#32)

theorem cod_at (h : FVec Ideal S1536x7168 .f32) (s : FVec Ideal S1536x1 .f32) (q : Fin 1536) (n : Fin 7168) :
    (cod h s (ix2 q n) : EReal) = UpSpec.codeOf (h (ix2 q n)) (s (ix2 q 0)) := by
  pointwise [cod, k0_pay1, UpSpec.codeOf]

/-- The body's code from its hidden value and its row's scale. -/
theorem pay1_at (x0 : Vec Ideal S1536x8192 .fp8e4m3) (x2 x3 : Vec Ideal S8192x7168 .fp8e4m3) (x1 : Vec Ideal S1536x1 .f32) (x4 x5 : Vec Ideal S1x7168 .f32) (q : Fin 1536) (n : Fin 7168) :
    (k0_pay1 (F := Ideal) (k0_pay5 x0 x2 x1 x4 x0 x3 x1 x5) (FloatOps.ofBits FTy.f32 3286237184#32) (FloatOps.ofBits FTy.f32 1138753536#32) (ix2 q n) : EReal)
      = UpSpec.codeOf (k0_pay3 (F := Ideal) x0 x2 x1 x4 x0 x3 x1 x5 (ix2 q n)) (k0_pay4 (F := Ideal) x0 x2 x1 x4 x0 x3 x1 x5 (ix2 q 0)) := by
  have e : k0_pay1 (F := Ideal) (k0_pay5 x0 x2 x1 x4 x0 x3 x1 x5) (FloatOps.ofBits FTy.f32 3286237184#32) (FloatOps.ofBits FTy.f32 1138753536#32)
      = cod (k0_pay3 (F := Ideal) x0 x2 x1 x4 x0 x3 x1 x5) (k0_pay4 (F := Ideal) x0 x2 x1 x4 x0 x3 x1 x5) := rfl
  rw [e]
  exact cod_at _ _ q n

/-- The rows' scales laid out in three blocks. -/
theorem pay2_at (s : FVec Ideal S1536x1 .f32) (b : Fin 3) (o : Fin 1) (r : Fin 512) :
    (k0_pay2 (F := Ideal) s (ix3 b o r) : EReal) = s (ix2 ⟨512 * b.val + r.val, by omega⟩ 0) := by
  pointwise [k0_pay2]
  blk_point []

/-- The reference's result arrays are the plain formulas of its arguments. -/
theorem final6 (c : Dev nD) : (dats m 0 c).arrAt 6 (cfgs 0).N
    = UpSpec.codes (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 6 t0_0 (by decide +kernel) _ fun j => ?_
  blk_simp
  rw [after0_6]
  frame_out
  idx_vars j
  refine (pay1_at _ _ _ _ _ _ j0 j1).trans ?_
  rw [hid_at, scale_at]
  rfl

theorem final7 (c : Dev nD) : (dats m 0 c).arrAt 7 (cfgs 0).N
    = UpSpec.scales (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_after_last 7 t0_0 (by decide +kernel) _ fun j => ?_
  blk_simp
  rw [after0_7]
  frame_out
  idx_vars j
  refine (pay2_at _ j0 j1 j2).trans ?_
  rw [scale_at]
  rfl

/-- The reference's run, with both result arrays named and the arguments unchanged. -/
theorem run_blocks (ρ : Dev nD → PrngReg) : θ_run defs (onTc (τ := τ) (main (F := Ideal))) ⟨m, fun _ => 0, ρ⟩ fun r => ∀ c : Dev nD,
      r.2.mem ((c : Thread nD τ).loc main_v3_0) = (dats m 0 c).arrAt 6 cfg0.N
      ∧ r.2.mem ((c : Thread nD τ).loc main_v3_1) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1 6, (h c).1 7,
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩) (run_main m ρ)

end Cert.UpRefIdeal.Val
end
-- ==== Proof.lean ====
module

public import proofs.«01_k».proof.Defs
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownRefIdeal
public import proofs.«01_k».proof.Proof.Gen.DownRefIdeal.Skeleton
public import proofs.«01_k».proof.Proof.Gen.DownRefIdeal.Launch
public import proofs.«01_k».proof.Proof.Gen.DownRefIdeal.Points
public import proofs.«01_k».proof.Proof.Gen.DownRefIdeal.Frame
public import proofs.«01_k».proof.Proof.Gen.DownIdeal.Value
public import proofs.«01_k».proof.Proof.Gen.DownRefIdeal.Value
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpRefIdeal
public import proofs.«01_k».proof.Proof.Gen.UpRefIdeal.Skeleton
public import proofs.«01_k».proof.Proof.Gen.UpRefIdeal.Launch
public import proofs.«01_k».proof.Proof.Gen.UpRefIdeal.Points
public import proofs.«01_k».proof.Proof.Gen.UpRefIdeal.Frame
public import proofs.«01_k».proof.Proof.DownVal
public import proofs.«01_k».proof.Proof.DownRefVal
public import proofs.«01_k».proof.Proof.UpRun
public import proofs.«01_k».proof.Proof.UpIdealRun
public import proofs.«01_k».proof.Proof.UpRefVal
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Down

/-- From memories agreeing on the arguments, the kernel's result array and the reference's both end as the plain formula. -/
theorem algebraic_down : Cert.algebraic_DownIdeal_DownRefIdeal := by
  pair_intro
  · run_from Cert.DownIdeal.Value.run_blocks m g
  · run_from Cert.DownRefIdeal.Value.run_blocks m' g'
    rw [Cert.DownIdeal.Val.final m c, Cert.DownRefIdeal.Val.final m' c]
    obtain ⟨e0, e1, e2, e3, e4, e5⟩ := hagree c
    rw [e0, e1, e2, e3, e4, e5]

/-- From memories agreeing on the arguments, the kernel's codes and scales of the hidden layer and the reference's both end as
    the plain formulas. -/
theorem algebraic_up : Cert.algebraic_UpIdeal_UpRefIdeal := by
  pair_intro
  · run_from Cert.UpIdeal.Hand.run_blocks m g
  · run_from Cert.UpRefIdeal.Val.run_blocks m' g'
    · rw [Cert.UpIdeal.Hand.final6 m c, Cert.UpRefIdeal.Val.final6 m' c]
      obtain ⟨e0, e1, e2, e3, e4, e5⟩ := hagree c
      rw [e0, e1, e2, e3, e4, e5]
    · rw [Cert.UpIdeal.Hand.final7 m c, Cert.UpRefIdeal.Val.final7 m' c]
      obtain ⟨e0, e1, e2, e3, e4, e5⟩ := hagree c
      rw [e0, e1, e2, e3, e4, e5]

theorem claim : Cert.Claim := ⟨Cert.Down.Gen.facts, Cert.DownIdeal.Gen.facts, Cert.DownRefIdeal.Gen.facts,
  Cert.Up.Gen.facts, Cert.UpIdeal.Gen.facts, Cert.UpRefIdeal.Gen.facts,
  fun m ρ _ => Cert.Down.Gen.frame m ρ, fun m ρ _ => Cert.DownIdeal.Gen.frame m ρ, fun m ρ _ => Cert.DownRefIdeal.Gen.frame m ρ,
  fun m ρ _ => Cert.Up.Hand.frame m ρ, fun m ρ _ => Cert.UpIdeal.Hand.frame m ρ, fun m ρ _ => Cert.UpRefIdeal.Gen.frame m ρ,
  trivial, algebraic_down, trivial, algebraic_up⟩

end Cert.Proof

end
